-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_neighbors [hPre_distinct_neighbors : Cert.Pre_distinct_neighbors.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_neighbors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_neighbors [hPre_distinct_neighbors : Cert.Pre_distinct_neighbors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_neighbors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_distinct_neighbors [hKernelIdeal : Cert.KernelIdeal.Facts] [hPre_distinct_neighbors : Cert.Pre_distinct_neighbors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_neighbors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_distinct_neighbors [hReferenceIdeal : Cert.ReferenceIdeal.Facts] [hPre_distinct_neighbors : Cert.Pre_distinct_neighbors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_neighbors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "inv_degree" .f32 0x3DFFFFFE#32 ((8796093022208 / 70368752973757 : ℝ) : EReal)
  ∧ IdealRules.named_const.Statement Cert.KernelIdeal.κ "nine_eps" .f32 0x307763DF#32 ((129703671 / 144115188075855872 : ℝ) : EReal)

def algebraic_KernelIdeal_ReferenceIdeal_pre_distinct_neighbors [hKernelIdeal : Cert.KernelIdeal.Facts] [hReferenceIdeal : Cert.ReferenceIdeal.Facts] [hPre_distinct_neighbors : Cert.Pre_distinct_neighbors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_neighbors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v355) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_distinct_neighbors : Cert.Pre_distinct_neighbors.Facts),
    quiescent_Kernel (hKernel := hKernel)
    ∧ quiescent_KernelIdeal (hKernelIdeal := hKernelIdeal)
    ∧ quiescent_KernelIdeal_pre_distinct_neighbors (hKernelIdeal := hKernelIdeal) (hPre_distinct_neighbors := hPre_distinct_neighbors)
    ∧ quiescent_ReferenceIdeal (hReferenceIdeal := hReferenceIdeal)
    ∧ quiescent_ReferenceIdeal_pre_distinct_neighbors (hReferenceIdeal := hReferenceIdeal) (hPre_distinct_neighbors := hPre_distinct_neighbors)
    ∧ preserves_Kernel_KernelIdeal
    ∧ algebraic_KernelIdeal_ReferenceIdeal_pre_distinct_neighbors (hKernelIdeal := hKernelIdeal) (hReferenceIdeal := hReferenceIdeal) (hPre_distinct_neighbors := hPre_distinct_neighbors)
-- ==== Pre_distinct_neighbors.lean ====
abbrev S256x200x11x11 : Shape := ⟨4, ![256, 200, 11, 11]⟩
abbrev S32x200x3x3 : Shape := ⟨4, ![32, 200, 3, 3]⟩
abbrev S32 : Shape := ⟨1, ![32]⟩
abbrev S64x32x3x3 : Shape := ⟨4, ![64, 32, 3, 3]⟩
abbrev S64 : Shape := ⟨1, ![64]⟩
abbrev S64x64x3x3 : Shape := ⟨4, ![64, 64, 3, 3]⟩
abbrev S64x64 : Shape := ⟨2, ![64, 64]⟩
abbrev S64x3 : Shape := ⟨2, ![64, 3]⟩
abbrev S64x2 : Shape := ⟨2, ![64, 2]⟩
abbrev S64x9 : Shape := ⟨2, ![64, 9]⟩
abbrev S16x64 : Shape := ⟨2, ![16, 64]⟩
abbrev S16 : Shape := ⟨1, ![16]⟩
abbrev S64x16 : Shape := ⟨2, ![64, 16]⟩
abbrev S128x64 : Shape := ⟨2, ![128, 64]⟩
abbrev S128 : Shape := ⟨1, ![128]⟩
abbrev S16x128 : Shape := ⟨2, ![16, 128]⟩
abbrev S256x11x11x200 : Shape := ⟨4, ![256, 11, 11, 200]⟩
abbrev S_ : Shape := ⟨0, ![]⟩
abbrev S256x13x13x200 : Shape := ⟨4, ![256, 13, 13, 200]⟩
abbrev S32x200x1x1 : Shape := ⟨4, ![32, 200, 1, 1]⟩
abbrev S32x200 : Shape := ⟨2, ![32, 200]⟩
abbrev S200x32 : Shape := ⟨2, ![200, 32]⟩
abbrev S256x11x11x32 : Shape := ⟨4, ![256, 11, 11, 32]⟩
abbrev S1x1x1x32 : Shape := ⟨4, ![1, 1, 1, 32]⟩
abbrev S256x13x13x32 : Shape := ⟨4, ![256, 13, 13, 32]⟩
abbrev S64x32x1x1 : Shape := ⟨4, ![64, 32, 1, 1]⟩
abbrev S64x32 : Shape := ⟨2, ![64, 32]⟩
abbrev S32x64 : Shape := ⟨2, ![32, 64]⟩
abbrev S256x11x11x64 : Shape := ⟨4, ![256, 11, 11, 64]⟩
abbrev S1x1x1x64 : Shape := ⟨4, ![1, 1, 1, 64]⟩
abbrev S256x13x13x64 : Shape := ⟨4, ![256, 13, 13, 64]⟩
abbrev S64x64x1x1 : Shape := ⟨4, ![64, 64, 1, 1]⟩
abbrev S256x121x64 : Shape := ⟨3, ![256, 121, 64]⟩
abbrev S256x121 : Shape := ⟨2, ![256, 121]⟩
abbrev S256x121x1 : Shape := ⟨3, ![256, 121, 1]⟩
abbrev S256x64x121 : Shape := ⟨3, ![256, 64, 121]⟩
abbrev S256x121x121 : Shape := ⟨3, ![256, 121, 121]⟩
abbrev S256x1x121 : Shape := ⟨3, ![256, 1, 121]⟩
abbrev S256x121x10 : Shape := ⟨3, ![256, 121, 10]⟩
abbrev S256x121x9 : Shape := ⟨3, ![256, 121, 9]⟩

class Facts : Prop where
  transposes_S256x200x11x11_S256x11x11x200_0_2_3_1 : S256x200x11x11.Transposes [0, 2, 3, 1] S256x11x11x200
  pads_S256x11x11x200_S256x13x13x200_000_110_110_000 : S256x11x11x200.Pads (![0, 1, 1, 0] : Fin 4 → Nat) ![0, 1, 1, 0] ![0, 0, 0, 0] S256x13x13x200
  h_S_ : 0 < S_.numel
  slices_S256x13x13x200_S256x11x11x200_0_0_0_0 : S256x13x13x200.Slices ![0, 0, 0, 0] S256x11x11x200
  slices_S32x200x3x3_S32x200x1x1_0_0_0_0 : S32x200x3x3.Slices ![0, 0, 0, 0] S32x200x1x1
  shapeCasts_S32x200x1x1_S32x200 : S32x200x1x1.ShapeCasts S32x200
  transposes_S32x200_S200x32_1_0 : S32x200.Transposes [1, 0] S200x32
  slices_S256x13x13x200_S256x11x11x200_0_0_1_0 : S256x13x13x200.Slices ![0, 0, 1, 0] S256x11x11x200
  slices_S32x200x3x3_S32x200x1x1_0_0_0_1 : S32x200x3x3.Slices ![0, 0, 0, 1] S32x200x1x1
  slices_S256x13x13x200_S256x11x11x200_0_0_2_0 : S256x13x13x200.Slices ![0, 0, 2, 0] S256x11x11x200
  slices_S32x200x3x3_S32x200x1x1_0_0_0_2 : S32x200x3x3.Slices ![0, 0, 0, 2] S32x200x1x1
  slices_S256x13x13x200_S256x11x11x200_0_1_0_0 : S256x13x13x200.Slices ![0, 1, 0, 0] S256x11x11x200
  slices_S32x200x3x3_S32x200x1x1_0_0_1_0 : S32x200x3x3.Slices ![0, 0, 1, 0] S32x200x1x1
  slices_S256x13x13x200_S256x11x11x200_0_1_1_0 : S256x13x13x200.Slices ![0, 1, 1, 0] S256x11x11x200
  slices_S32x200x3x3_S32x200x1x1_0_0_1_1 : S32x200x3x3.Slices ![0, 0, 1, 1] S32x200x1x1
  slices_S256x13x13x200_S256x11x11x200_0_1_2_0 : S256x13x13x200.Slices ![0, 1, 2, 0] S256x11x11x200
  slices_S32x200x3x3_S32x200x1x1_0_0_1_2 : S32x200x3x3.Slices ![0, 0, 1, 2] S32x200x1x1
  slices_S256x13x13x200_S256x11x11x200_0_2_0_0 : S256x13x13x200.Slices ![0, 2, 0, 0] S256x11x11x200
  slices_S32x200x3x3_S32x200x1x1_0_0_2_0 : S32x200x3x3.Slices ![0, 0, 2, 0] S32x200x1x1
  slices_S256x13x13x200_S256x11x11x200_0_2_1_0 : S256x13x13x200.Slices ![0, 2, 1, 0] S256x11x11x200
  slices_S32x200x3x3_S32x200x1x1_0_0_2_1 : S32x200x3x3.Slices ![0, 0, 2, 1] S32x200x1x1
  slices_S256x13x13x200_S256x11x11x200_0_2_2_0 : S256x13x13x200.Slices ![0, 2, 2, 0] S256x11x11x200
  slices_S32x200x3x3_S32x200x1x1_0_0_2_2 : S32x200x3x3.Slices ![0, 0, 2, 2] S32x200x1x1
  bcast_S32_S1x1x1x32_3 : S32.BroadcastsInDim S1x1x1x32 (![3] : Fin 1 → Fin S1x1x1x32.rank)
  bcast_S1x1x1x32_S256x11x11x32_0_1_2_3 : S1x1x1x32.BroadcastsInDim S256x11x11x32 (![0, 1, 2, 3] : Fin 4 → Fin S256x11x11x32.rank)
  bcast_S_S256x11x11x32 : S_.BroadcastsInDim S256x11x11x32 (![] : Fin 0 → Fin S256x11x11x32.rank)
  pads_S256x11x11x32_S256x13x13x32_000_110_110_000 : S256x11x11x32.Pads (![0, 1, 1, 0] : Fin 4 → Nat) ![0, 1, 1, 0] ![0, 0, 0, 0] S256x13x13x32
  slices_S256x13x13x32_S256x11x11x32_0_0_0_0 : S256x13x13x32.Slices ![0, 0, 0, 0] S256x11x11x32
  slices_S64x32x3x3_S64x32x1x1_0_0_0_0 : S64x32x3x3.Slices ![0, 0, 0, 0] S64x32x1x1
  shapeCasts_S64x32x1x1_S64x32 : S64x32x1x1.ShapeCasts S64x32
  transposes_S64x32_S32x64_1_0 : S64x32.Transposes [1, 0] S32x64
  slices_S256x13x13x32_S256x11x11x32_0_0_1_0 : S256x13x13x32.Slices ![0, 0, 1, 0] S256x11x11x32
  slices_S64x32x3x3_S64x32x1x1_0_0_0_1 : S64x32x3x3.Slices ![0, 0, 0, 1] S64x32x1x1
  slices_S256x13x13x32_S256x11x11x32_0_0_2_0 : S256x13x13x32.Slices ![0, 0, 2, 0] S256x11x11x32
  slices_S64x32x3x3_S64x32x1x1_0_0_0_2 : S64x32x3x3.Slices ![0, 0, 0, 2] S64x32x1x1
  slices_S256x13x13x32_S256x11x11x32_0_1_0_0 : S256x13x13x32.Slices ![0, 1, 0, 0] S256x11x11x32
  slices_S64x32x3x3_S64x32x1x1_0_0_1_0 : S64x32x3x3.Slices ![0, 0, 1, 0] S64x32x1x1
  slices_S256x13x13x32_S256x11x11x32_0_1_1_0 : S256x13x13x32.Slices ![0, 1, 1, 0] S256x11x11x32
  slices_S64x32x3x3_S64x32x1x1_0_0_1_1 : S64x32x3x3.Slices ![0, 0, 1, 1] S64x32x1x1
  slices_S256x13x13x32_S256x11x11x32_0_1_2_0 : S256x13x13x32.Slices ![0, 1, 2, 0] S256x11x11x32
  slices_S64x32x3x3_S64x32x1x1_0_0_1_2 : S64x32x3x3.Slices ![0, 0, 1, 2] S64x32x1x1
  slices_S256x13x13x32_S256x11x11x32_0_2_0_0 : S256x13x13x32.Slices ![0, 2, 0, 0] S256x11x11x32
  slices_S64x32x3x3_S64x32x1x1_0_0_2_0 : S64x32x3x3.Slices ![0, 0, 2, 0] S64x32x1x1
  slices_S256x13x13x32_S256x11x11x32_0_2_1_0 : S256x13x13x32.Slices ![0, 2, 1, 0] S256x11x11x32
  slices_S64x32x3x3_S64x32x1x1_0_0_2_1 : S64x32x3x3.Slices ![0, 0, 2, 1] S64x32x1x1
  slices_S256x13x13x32_S256x11x11x32_0_2_2_0 : S256x13x13x32.Slices ![0, 2, 2, 0] S256x11x11x32
  slices_S64x32x3x3_S64x32x1x1_0_0_2_2 : S64x32x3x3.Slices ![0, 0, 2, 2] S64x32x1x1
  bcast_S64_S1x1x1x64_3 : S64.BroadcastsInDim S1x1x1x64 (![3] : Fin 1 → Fin S1x1x1x64.rank)
  bcast_S1x1x1x64_S256x11x11x64_0_1_2_3 : S1x1x1x64.BroadcastsInDim S256x11x11x64 (![0, 1, 2, 3] : Fin 4 → Fin S256x11x11x64.rank)
  bcast_S_S256x11x11x64 : S_.BroadcastsInDim S256x11x11x64 (![] : Fin 0 → Fin S256x11x11x64.rank)
  pads_S256x11x11x64_S256x13x13x64_000_110_110_000 : S256x11x11x64.Pads (![0, 1, 1, 0] : Fin 4 → Nat) ![0, 1, 1, 0] ![0, 0, 0, 0] S256x13x13x64
  slices_S256x13x13x64_S256x11x11x64_0_0_0_0 : S256x13x13x64.Slices ![0, 0, 0, 0] S256x11x11x64
  slices_S64x64x3x3_S64x64x1x1_0_0_0_0 : S64x64x3x3.Slices ![0, 0, 0, 0] S64x64x1x1
  shapeCasts_S64x64x1x1_S64x64 : S64x64x1x1.ShapeCasts S64x64
  transposes_S64x64_S64x64_1_0 : S64x64.Transposes [1, 0] S64x64
  slices_S256x13x13x64_S256x11x11x64_0_0_1_0 : S256x13x13x64.Slices ![0, 0, 1, 0] S256x11x11x64
  slices_S64x64x3x3_S64x64x1x1_0_0_0_1 : S64x64x3x3.Slices ![0, 0, 0, 1] S64x64x1x1
  slices_S256x13x13x64_S256x11x11x64_0_0_2_0 : S256x13x13x64.Slices ![0, 0, 2, 0] S256x11x11x64
  slices_S64x64x3x3_S64x64x1x1_0_0_0_2 : S64x64x3x3.Slices ![0, 0, 0, 2] S64x64x1x1
  slices_S256x13x13x64_S256x11x11x64_0_1_0_0 : S256x13x13x64.Slices ![0, 1, 0, 0] S256x11x11x64
  slices_S64x64x3x3_S64x64x1x1_0_0_1_0 : S64x64x3x3.Slices ![0, 0, 1, 0] S64x64x1x1
  slices_S256x13x13x64_S256x11x11x64_0_1_1_0 : S256x13x13x64.Slices ![0, 1, 1, 0] S256x11x11x64
  slices_S64x64x3x3_S64x64x1x1_0_0_1_1 : S64x64x3x3.Slices ![0, 0, 1, 1] S64x64x1x1
  slices_S256x13x13x64_S256x11x11x64_0_1_2_0 : S256x13x13x64.Slices ![0, 1, 2, 0] S256x11x11x64
  slices_S64x64x3x3_S64x64x1x1_0_0_1_2 : S64x64x3x3.Slices ![0, 0, 1, 2] S64x64x1x1
  slices_S256x13x13x64_S256x11x11x64_0_2_0_0 : S256x13x13x64.Slices ![0, 2, 0, 0] S256x11x11x64
  slices_S64x64x3x3_S64x64x1x1_0_0_2_0 : S64x64x3x3.Slices ![0, 0, 2, 0] S64x64x1x1
  slices_S256x13x13x64_S256x11x11x64_0_2_1_0 : S256x13x13x64.Slices ![0, 2, 1, 0] S256x11x11x64
  slices_S64x64x3x3_S64x64x1x1_0_0_2_1 : S64x64x3x3.Slices ![0, 0, 2, 1] S64x64x1x1
  slices_S256x13x13x64_S256x11x11x64_0_2_2_0 : S256x13x13x64.Slices ![0, 2, 2, 0] S256x11x11x64
  slices_S64x64x3x3_S64x64x1x1_0_0_2_2 : S64x64x3x3.Slices ![0, 0, 2, 2] S64x64x1x1
  shapeCasts_S256x11x11x64_S256x121x64 : S256x11x11x64.ShapeCasts S256x121x64
  reducesTo_S256x121x64_S256x121_d2 : S256x121x64.ReducesTo [2] S256x121
  bcast_S256x121_S256x121x1_0_1 : S256x121.BroadcastsInDim S256x121x1 (![0, 1] : Fin 2 → Fin S256x121x1.rank)
  transposes_S256x121x64_S256x64x121_0_2_1 : S256x121x64.Transposes [0, 2, 1] S256x64x121
  bcast_S_S256x121x121 : S_.BroadcastsInDim S256x121x121 (![] : Fin 0 → Fin S256x121x121.rank)
  bcast_S256x121x1_S256x121x121_0_1_2 : S256x121x1.BroadcastsInDim S256x121x121 (![0, 1, 2] : Fin 3 → Fin S256x121x121.rank)
  transposes_S256x121x1_S256x1x121_0_2_1 : S256x121x1.Transposes [0, 2, 1] S256x1x121
  bcast_S256x1x121_S256x121x121_0_1_2 : S256x1x121.BroadcastsInDim S256x121x121 (![0, 1, 2] : Fin 3 → Fin S256x121x121.rank)
  sliceFits_S256x121x121_S256x121x10 : S256x121x121.Slices (fun _ => 0) S256x121x10
  slices_S256x121x10_S256x121x9_0_0_1 : S256x121x10.Slices ![0, 0, 1] S256x121x9
  slices_S256x121x10_S256x121x9_0_0_0 : S256x121x10.Slices ![0, 0, 0] S256x121x9
  dot_S256x11x11x200_S200x32_S256x11x11x32_3_0_012_1_n_n_wf : DotDims.WF S256x11x11x200 S200x32 S256x11x11x32 [3] [0] [0, 1, 2] [1] [] []
  dot_S256x11x11x32_S32x64_S256x11x11x64_3_0_012_1_n_n_wf : DotDims.WF S256x11x11x32 S32x64 S256x11x11x64 [3] [0] [0, 1, 2] [1] [] []
  dot_S256x11x11x64_S64x64_S256x11x11x64_3_0_012_1_n_n_wf : DotDims.WF S256x11x11x64 S64x64 S256x11x11x64 [3] [0] [0, 1, 2] [1] [] []
  dot_S256x121x64_S256x64x121_S256x121x121_2_1_1_2_0_0_wf : DotDims.WF S256x121x64 S256x64x121 S256x121x121 [2] [1] [1] [2] [0] [0]

variable [Facts]

def dot_S256x11x11x200_S200x32_S256x11x11x32_3_0_012_1_n_n : DotDims S256x11x11x200 S200x32 S256x11x11x32 where
  lhsContracting := [3]
  rhsContracting := [0]
  lhsNonContracting := [0, 1, 2]
  rhsNonContracting := [1]
  lhsBatch := []
  rhsBatch := []
  wf := dot_S256x11x11x200_S200x32_S256x11x11x32_3_0_012_1_n_n_wf
def dot_S256x11x11x32_S32x64_S256x11x11x64_3_0_012_1_n_n : DotDims S256x11x11x32 S32x64 S256x11x11x64 where
  lhsContracting := [3]
  rhsContracting := [0]
  lhsNonContracting := [0, 1, 2]
  rhsNonContracting := [1]
  lhsBatch := []
  rhsBatch := []
  wf := dot_S256x11x11x32_S32x64_S256x11x11x64_3_0_012_1_n_n_wf
def dot_S256x11x11x64_S64x64_S256x11x11x64_3_0_012_1_n_n : DotDims S256x11x11x64 S64x64 S256x11x11x64 where
  lhsContracting := [3]
  rhsContracting := [0]
  lhsNonContracting := [0, 1, 2]
  rhsNonContracting := [1]
  lhsBatch := []
  rhsBatch := []
  wf := dot_S256x11x11x64_S64x64_S256x11x11x64_3_0_012_1_n_n_wf
def dot_S256x121x64_S256x64x121_S256x121x121_2_1_1_2_0_0 : DotDims S256x121x64 S256x64x121 S256x121x121 where
  lhsContracting := [2]
  rhsContracting := [1]
  lhsNonContracting := [1]
  rhsNonContracting := [2]
  lhsBatch := [0]
  rhsBatch := [0]
  wf := dot_S256x121x64_S256x64x121_S256x121x121_2_1_1_2_0_0_wf
def fn_part9 {F : FTy → Type} [FloatOps F] (main_v200 : FVec F S256x121x9 .f32) (main_v201 : FVec F S256x121x9 .f32) : IVec S256x121x9 1 :=
  let main_v202 : IVec S256x121x9 1 := cmpf .olt main_v200 main_v201
  main_v202

def fn_part8 {F : FTy → Type} [FloatOps F] (main_v181 : FVec F S256x11x11x64 .f32) (main_v182 : FVec F S256x11x11x64 .f32) : IVec S256x121x9 1 :=
  let main_v183 : FVec F S256x11x11x64 .f32 := maximumf main_v181 main_v182
  let main_v184 : FVec F S256x121x64 .f32 := shapeCast S256x121x64 main_v183 shapeCasts_S256x11x11x64_S256x121x64
  let main_v185 : FVec F S256x121x64 .f32 := mulf main_v184 main_v184
  let main_cst_8 : FVec F S_ .f32 := constant S_ .f32 0x00000000#32
  let main_v186 : FVec F S256x121 .f32 := (fun x v => Host.reduceAdd x v reducesTo_S256x121x64_S256x121_d2 h_S_) main_v185 main_cst_8
  let main_v187 : FVec F S256x121x1 .f32 := broadcastInDim S256x121x1 ![0, 1] bcast_S256x121_S256x121x1_0_1 main_v186
  let main_v188 : FVec F S256x64x121 .f32 := (transpose S256x64x121 [0, 2, 1] · transposes_S256x121x64_S256x64x121_0_2_1) main_v184
  let main_v189 : FVec F S256x121x121 .f32 := (fun l r => Host.dotGeneral dot_S256x121x64_S256x64x121_S256x121x121_2_1_1_2_0_0 none l r) main_v184 main_v188
  let main_cst_9 : FVec F S_ .f32 := constant S_ .f32 0x40000000#32
  let main_v190 : FVec F S256x121x121 .f32 := broadcastInDim S256x121x121 ![] bcast_S_S256x121x121 main_cst_9
  let main_v191 : FVec F S256x121x121 .f32 := mulf main_v190 main_v189
  let main_v192 : FVec F S256x121x121 .f32 := broadcastInDim S256x121x121 ![0, 1, 2] bcast_S256x121x1_S256x121x121_0_1_2 main_v187
  let main_v193 : FVec F S256x121x121 .f32 := subf main_v192 main_v191
  let main_v194 : FVec F S256x1x121 .f32 := (transpose S256x1x121 [0, 2, 1] · transposes_S256x121x1_S256x1x121_0_2_1) main_v187
  let main_v195 : FVec F S256x121x121 .f32 := broadcastInDim S256x121x121 ![0, 1, 2] bcast_S256x1x121_S256x121x121_0_1_2 main_v194
  let main_v196 : FVec F S256x121x121 .f32 := addf main_v193 main_v195
  let main_cst_10 : FVec F S_ .f32 := constant S_ .f32 0x00000000#32
  let main_v197 : FVec F S256x121x121 .f32 := broadcastInDim S256x121x121 ![] bcast_S_S256x121x121 main_cst_10
  let main_v198 : FVec F S256x121x121 .f32 := maximumf main_v196 main_v197
  let main_v199 : FVec F S256x121x121 .f32 := Host.negf main_v198
  let main_values : FVec F S256x121x10 .f32 := (fun x => (Host.topK S256x121x10 2 (FloatOps.cmpfTotal .gt) x sliceFits_S256x121x121_S256x121x10).1) main_v199
  let main_indices : IVec S256x121x10 32 := (fun x => (Host.topK S256x121x10 2 (FloatOps.cmpfTotal .gt) x sliceFits_S256x121x121_S256x121x10).2) main_v199
  let main_v200 : FVec F S256x121x9 .f32 := (extractStridedSlice S256x121x9 ![0, 0, 1] · slices_S256x121x10_S256x121x9_0_0_1) main_values
  let main_v201 : FVec F S256x121x9 .f32 := (extractStridedSlice S256x121x9 ![0, 0, 0] · slices_S256x121x10_S256x121x9_0_0_0) main_values
  fn_part9 (F := F) main_v200 main_v201

def fn_part7 {F : FTy → Type} [FloatOps F] (main_arg5 : FVec F S64x64x3x3 .f32) (main_arg6 : FVec F S64 .f32) (main_v123 : FVec F S256x13x13x64 .f32) (main_v158 : FVec F S256x11x11x64 .f32) (main_v159 : FVec F S256x11x11x64 .f32) (main_v160 : FVec F S64x64x1x1 .f32) : IVec S256x121x9 1 :=
  let main_v161 : FVec F S64x64 .f32 := shapeCast S64x64 main_v160 shapeCasts_S64x64x1x1_S64x64
  let main_v162 : FVec F S64x64 .f32 := (transpose S64x64 [1, 0] · transposes_S64x64_S64x64_1_0) main_v161
  let main_v163 : FVec F S256x11x11x64 .f32 := (fun l r => Host.dotGeneral dot_S256x11x11x64_S64x64_S256x11x11x64_3_0_012_1_n_n none l r) main_v159 main_v162
  let main_v164 : FVec F S256x11x11x64 .f32 := addf main_v158 main_v163
  let main_v165 : FVec F S256x11x11x64 .f32 := (extractStridedSlice S256x11x11x64 ![0, 2, 1, 0] · slices_S256x13x13x64_S256x11x11x64_0_2_1_0) main_v123
  let main_v166 : FVec F S64x64x1x1 .f32 := (extractStridedSlice S64x64x1x1 ![0, 0, 2, 1] · slices_S64x64x3x3_S64x64x1x1_0_0_2_1) main_arg5
  let main_v167 : FVec F S64x64 .f32 := shapeCast S64x64 main_v166 shapeCasts_S64x64x1x1_S64x64
  let main_v168 : FVec F S64x64 .f32 := (transpose S64x64 [1, 0] · transposes_S64x64_S64x64_1_0) main_v167
  let main_v169 : FVec F S256x11x11x64 .f32 := (fun l r => Host.dotGeneral dot_S256x11x11x64_S64x64_S256x11x11x64_3_0_012_1_n_n none l r) main_v165 main_v168
  let main_v170 : FVec F S256x11x11x64 .f32 := addf main_v164 main_v169
  let main_v171 : FVec F S256x11x11x64 .f32 := (extractStridedSlice S256x11x11x64 ![0, 2, 2, 0] · slices_S256x13x13x64_S256x11x11x64_0_2_2_0) main_v123
  let main_v172 : FVec F S64x64x1x1 .f32 := (extractStridedSlice S64x64x1x1 ![0, 0, 2, 2] · slices_S64x64x3x3_S64x64x1x1_0_0_2_2) main_arg5
  let main_v173 : FVec F S64x64 .f32 := shapeCast S64x64 main_v172 shapeCasts_S64x64x1x1_S64x64
  let main_v174 : FVec F S64x64 .f32 := (transpose S64x64 [1, 0] · transposes_S64x64_S64x64_1_0) main_v173
  let main_v175 : FVec F S256x11x11x64 .f32 := (fun l r => Host.dotGeneral dot_S256x11x11x64_S64x64_S256x11x11x64_3_0_012_1_n_n none l r) main_v171 main_v174
  let main_v176 : FVec F S256x11x11x64 .f32 := addf main_v170 main_v175
  let main_v177 : FVec F S1x1x1x64 .f32 := broadcastInDim S1x1x1x64 ![3] bcast_S64_S1x1x1x64_3 main_arg6
  let main_v178 : FVec F S256x11x11x64 .f32 := broadcastInDim S256x11x11x64 ![0, 1, 2, 3] bcast_S1x1x1x64_S256x11x11x64_0_1_2_3 main_v177
  let main_v179 : FVec F S256x11x11x64 .f32 := addf main_v176 main_v178
  let main_cst_6 : FVec F S_ .f32 := constant S_ .f32 0x3F80002A#32
  let main_v180 : FVec F S256x11x11x64 .f32 := broadcastInDim S256x11x11x64 ![] bcast_S_S256x11x11x64 main_cst_6
  let main_v181 : FVec F S256x11x11x64 .f32 := Host.divf main_v179 main_v180
  let main_cst_7 : FVec F S_ .f32 := constant S_ .f32 0x00000000#32
  let main_v182 : FVec F S256x11x11x64 .f32 := broadcastInDim S256x11x11x64 ![] bcast_S_S256x11x11x64 main_cst_7
  fn_part8 (F := F) main_v181 main_v182

def fn_part6 {F : FTy → Type} [FloatOps F] (main_arg5 : FVec F S64x64x3x3 .f32) (main_arg6 : FVec F S64 .f32) (main_v123 : FVec F S256x13x13x64 .f32) (main_v134 : FVec F S256x11x11x64 .f32) (main_v135 : FVec F S256x11x11x64 .f32) (main_v136 : FVec F S64x64x1x1 .f32) : IVec S256x121x9 1 :=
  let main_v137 : FVec F S64x64 .f32 := shapeCast S64x64 main_v136 shapeCasts_S64x64x1x1_S64x64
  let main_v138 : FVec F S64x64 .f32 := (transpose S64x64 [1, 0] · transposes_S64x64_S64x64_1_0) main_v137
  let main_v139 : FVec F S256x11x11x64 .f32 := (fun l r => Host.dotGeneral dot_S256x11x11x64_S64x64_S256x11x11x64_3_0_012_1_n_n none l r) main_v135 main_v138
  let main_v140 : FVec F S256x11x11x64 .f32 := addf main_v134 main_v139
  let main_v141 : FVec F S256x11x11x64 .f32 := (extractStridedSlice S256x11x11x64 ![0, 1, 0, 0] · slices_S256x13x13x64_S256x11x11x64_0_1_0_0) main_v123
  let main_v142 : FVec F S64x64x1x1 .f32 := (extractStridedSlice S64x64x1x1 ![0, 0, 1, 0] · slices_S64x64x3x3_S64x64x1x1_0_0_1_0) main_arg5
  let main_v143 : FVec F S64x64 .f32 := shapeCast S64x64 main_v142 shapeCasts_S64x64x1x1_S64x64
  let main_v144 : FVec F S64x64 .f32 := (transpose S64x64 [1, 0] · transposes_S64x64_S64x64_1_0) main_v143
  let main_v145 : FVec F S256x11x11x64 .f32 := (fun l r => Host.dotGeneral dot_S256x11x11x64_S64x64_S256x11x11x64_3_0_012_1_n_n none l r) main_v141 main_v144
  let main_v146 : FVec F S256x11x11x64 .f32 := addf main_v140 main_v145
  let main_v147 : FVec F S256x11x11x64 .f32 := (extractStridedSlice S256x11x11x64 ![0, 1, 1, 0] · slices_S256x13x13x64_S256x11x11x64_0_1_1_0) main_v123
  let main_v148 : FVec F S64x64x1x1 .f32 := (extractStridedSlice S64x64x1x1 ![0, 0, 1, 1] · slices_S64x64x3x3_S64x64x1x1_0_0_1_1) main_arg5
  let main_v149 : FVec F S64x64 .f32 := shapeCast S64x64 main_v148 shapeCasts_S64x64x1x1_S64x64
  let main_v150 : FVec F S64x64 .f32 := (transpose S64x64 [1, 0] · transposes_S64x64_S64x64_1_0) main_v149
  let main_v151 : FVec F S256x11x11x64 .f32 := (fun l r => Host.dotGeneral dot_S256x11x11x64_S64x64_S256x11x11x64_3_0_012_1_n_n none l r) main_v147 main_v150
  let main_v152 : FVec F S256x11x11x64 .f32 := addf main_v146 main_v151
  let main_v153 : FVec F S256x11x11x64 .f32 := (extractStridedSlice S256x11x11x64 ![0, 1, 2, 0] · slices_S256x13x13x64_S256x11x11x64_0_1_2_0) main_v123
  let main_v154 : FVec F S64x64x1x1 .f32 := (extractStridedSlice S64x64x1x1 ![0, 0, 1, 2] · slices_S64x64x3x3_S64x64x1x1_0_0_1_2) main_arg5
  let main_v155 : FVec F S64x64 .f32 := shapeCast S64x64 main_v154 shapeCasts_S64x64x1x1_S64x64
  let main_v156 : FVec F S64x64 .f32 := (transpose S64x64 [1, 0] · transposes_S64x64_S64x64_1_0) main_v155
  let main_v157 : FVec F S256x11x11x64 .f32 := (fun l r => Host.dotGeneral dot_S256x11x11x64_S64x64_S256x11x11x64_3_0_012_1_n_n none l r) main_v153 main_v156
  let main_v158 : FVec F S256x11x11x64 .f32 := addf main_v152 main_v157
  let main_v159 : FVec F S256x11x11x64 .f32 := (extractStridedSlice S256x11x11x64 ![0, 2, 0, 0] · slices_S256x13x13x64_S256x11x11x64_0_2_0_0) main_v123
  let main_v160 : FVec F S64x64x1x1 .f32 := (extractStridedSlice S64x64x1x1 ![0, 0, 2, 0] · slices_S64x64x3x3_S64x64x1x1_0_0_2_0) main_arg5
  fn_part7 (F := F) main_arg5 main_arg6 main_v123 main_v158 main_v159 main_v160

def fn_part5 {F : FTy → Type} [FloatOps F] (main_arg4 : FVec F S64 .f32) (main_arg5 : FVec F S64x64x3x3 .f32) (main_arg6 : FVec F S64 .f32) (main_v115 : FVec F S256x11x11x64 .f32) : IVec S256x121x9 1 :=
  let main_v116 : FVec F S1x1x1x64 .f32 := broadcastInDim S1x1x1x64 ![3] bcast_S64_S1x1x1x64_3 main_arg4
  let main_v117 : FVec F S256x11x11x64 .f32 := broadcastInDim S256x11x11x64 ![0, 1, 2, 3] bcast_S1x1x1x64_S256x11x11x64_0_1_2_3 main_v116
  let main_v118 : FVec F S256x11x11x64 .f32 := addf main_v115 main_v117
  let main_cst_3 : FVec F S_ .f32 := constant S_ .f32 0x3F80002A#32
  let main_v119 : FVec F S256x11x11x64 .f32 := broadcastInDim S256x11x11x64 ![] bcast_S_S256x11x11x64 main_cst_3
  let main_v120 : FVec F S256x11x11x64 .f32 := Host.divf main_v118 main_v119
  let main_cst_4 : FVec F S_ .f32 := constant S_ .f32 0x00000000#32
  let main_v121 : FVec F S256x11x11x64 .f32 := broadcastInDim S256x11x11x64 ![] bcast_S_S256x11x11x64 main_cst_4
  let main_v122 : FVec F S256x11x11x64 .f32 := maximumf main_v120 main_v121
  let main_cst_5 : FVec F S_ .f32 := constant S_ .f32 0x00000000#32
  let main_v123 : FVec F S256x13x13x64 .f32 := (fun x v => pad S256x13x13x64 ![0, 1, 1, 0] ![0, 1, 1, 0] ![0, 0, 0, 0] x v pads_S256x11x11x64_S256x13x13x64_000_110_110_000 h_S_) main_v122 main_cst_5
  let main_v124 : FVec F S256x11x11x64 .f32 := (extractStridedSlice S256x11x11x64 ![0, 0, 0, 0] · slices_S256x13x13x64_S256x11x11x64_0_0_0_0) main_v123
  let main_v125 : FVec F S64x64x1x1 .f32 := (extractStridedSlice S64x64x1x1 ![0, 0, 0, 0] · slices_S64x64x3x3_S64x64x1x1_0_0_0_0) main_arg5
  let main_v126 : FVec F S64x64 .f32 := shapeCast S64x64 main_v125 shapeCasts_S64x64x1x1_S64x64
  let main_v127 : FVec F S64x64 .f32 := (transpose S64x64 [1, 0] · transposes_S64x64_S64x64_1_0) main_v126
  let main_v128 : FVec F S256x11x11x64 .f32 := (fun l r => Host.dotGeneral dot_S256x11x11x64_S64x64_S256x11x11x64_3_0_012_1_n_n none l r) main_v124 main_v127
  let main_v129 : FVec F S256x11x11x64 .f32 := (extractStridedSlice S256x11x11x64 ![0, 0, 1, 0] · slices_S256x13x13x64_S256x11x11x64_0_0_1_0) main_v123
  let main_v130 : FVec F S64x64x1x1 .f32 := (extractStridedSlice S64x64x1x1 ![0, 0, 0, 1] · slices_S64x64x3x3_S64x64x1x1_0_0_0_1) main_arg5
  let main_v131 : FVec F S64x64 .f32 := shapeCast S64x64 main_v130 shapeCasts_S64x64x1x1_S64x64
  let main_v132 : FVec F S64x64 .f32 := (transpose S64x64 [1, 0] · transposes_S64x64_S64x64_1_0) main_v131
  let main_v133 : FVec F S256x11x11x64 .f32 := (fun l r => Host.dotGeneral dot_S256x11x11x64_S64x64_S256x11x11x64_3_0_012_1_n_n none l r) main_v129 main_v132
  let main_v134 : FVec F S256x11x11x64 .f32 := addf main_v128 main_v133
  let main_v135 : FVec F S256x11x11x64 .f32 := (extractStridedSlice S256x11x11x64 ![0, 0, 2, 0] · slices_S256x13x13x64_S256x11x11x64_0_0_2_0) main_v123
  let main_v136 : FVec F S64x64x1x1 .f32 := (extractStridedSlice S64x64x1x1 ![0, 0, 0, 2] · slices_S64x64x3x3_S64x64x1x1_0_0_0_2) main_arg5
  fn_part6 (F := F) main_arg5 main_arg6 main_v123 main_v134 main_v135 main_v136

def fn_part4 {F : FTy → Type} [FloatOps F] (main_arg3 : FVec F S64x32x3x3 .f32) (main_arg4 : FVec F S64 .f32) (main_arg5 : FVec F S64x64x3x3 .f32) (main_arg6 : FVec F S64 .f32) (main_v62 : FVec F S256x13x13x32 .f32) (main_v91 : FVec F S256x11x11x64 .f32) : IVec S256x121x9 1 :=
  let main_v92 : FVec F S256x11x11x32 .f32 := (extractStridedSlice S256x11x11x32 ![0, 1, 2, 0] · slices_S256x13x13x32_S256x11x11x32_0_1_2_0) main_v62
  let main_v93 : FVec F S64x32x1x1 .f32 := (extractStridedSlice S64x32x1x1 ![0, 0, 1, 2] · slices_S64x32x3x3_S64x32x1x1_0_0_1_2) main_arg3
  let main_v94 : FVec F S64x32 .f32 := shapeCast S64x32 main_v93 shapeCasts_S64x32x1x1_S64x32
  let main_v95 : FVec F S32x64 .f32 := (transpose S32x64 [1, 0] · transposes_S64x32_S32x64_1_0) main_v94
  let main_v96 : FVec F S256x11x11x64 .f32 := (fun l r => Host.dotGeneral dot_S256x11x11x32_S32x64_S256x11x11x64_3_0_012_1_n_n none l r) main_v92 main_v95
  let main_v97 : FVec F S256x11x11x64 .f32 := addf main_v91 main_v96
  let main_v98 : FVec F S256x11x11x32 .f32 := (extractStridedSlice S256x11x11x32 ![0, 2, 0, 0] · slices_S256x13x13x32_S256x11x11x32_0_2_0_0) main_v62
  let main_v99 : FVec F S64x32x1x1 .f32 := (extractStridedSlice S64x32x1x1 ![0, 0, 2, 0] · slices_S64x32x3x3_S64x32x1x1_0_0_2_0) main_arg3
  let main_v100 : FVec F S64x32 .f32 := shapeCast S64x32 main_v99 shapeCasts_S64x32x1x1_S64x32
  let main_v101 : FVec F S32x64 .f32 := (transpose S32x64 [1, 0] · transposes_S64x32_S32x64_1_0) main_v100
  let main_v102 : FVec F S256x11x11x64 .f32 := (fun l r => Host.dotGeneral dot_S256x11x11x32_S32x64_S256x11x11x64_3_0_012_1_n_n none l r) main_v98 main_v101
  let main_v103 : FVec F S256x11x11x64 .f32 := addf main_v97 main_v102
  let main_v104 : FVec F S256x11x11x32 .f32 := (extractStridedSlice S256x11x11x32 ![0, 2, 1, 0] · slices_S256x13x13x32_S256x11x11x32_0_2_1_0) main_v62
  let main_v105 : FVec F S64x32x1x1 .f32 := (extractStridedSlice S64x32x1x1 ![0, 0, 2, 1] · slices_S64x32x3x3_S64x32x1x1_0_0_2_1) main_arg3
  let main_v106 : FVec F S64x32 .f32 := shapeCast S64x32 main_v105 shapeCasts_S64x32x1x1_S64x32
  let main_v107 : FVec F S32x64 .f32 := (transpose S32x64 [1, 0] · transposes_S64x32_S32x64_1_0) main_v106
  let main_v108 : FVec F S256x11x11x64 .f32 := (fun l r => Host.dotGeneral dot_S256x11x11x32_S32x64_S256x11x11x64_3_0_012_1_n_n none l r) main_v104 main_v107
  let main_v109 : FVec F S256x11x11x64 .f32 := addf main_v103 main_v108
  let main_v110 : FVec F S256x11x11x32 .f32 := (extractStridedSlice S256x11x11x32 ![0, 2, 2, 0] · slices_S256x13x13x32_S256x11x11x32_0_2_2_0) main_v62
  let main_v111 : FVec F S64x32x1x1 .f32 := (extractStridedSlice S64x32x1x1 ![0, 0, 2, 2] · slices_S64x32x3x3_S64x32x1x1_0_0_2_2) main_arg3
  let main_v112 : FVec F S64x32 .f32 := shapeCast S64x32 main_v111 shapeCasts_S64x32x1x1_S64x32
  let main_v113 : FVec F S32x64 .f32 := (transpose S32x64 [1, 0] · transposes_S64x32_S32x64_1_0) main_v112
  let main_v114 : FVec F S256x11x11x64 .f32 := (fun l r => Host.dotGeneral dot_S256x11x11x32_S32x64_S256x11x11x64_3_0_012_1_n_n none l r) main_v110 main_v113
  let main_v115 : FVec F S256x11x11x64 .f32 := addf main_v109 main_v114
  fn_part5 (F := F) main_arg4 main_arg5 main_arg6 main_v115

def fn_part3 {F : FTy → Type} [FloatOps F] (main_arg3 : FVec F S64x32x3x3 .f32) (main_arg4 : FVec F S64 .f32) (main_arg5 : FVec F S64x64x3x3 .f32) (main_arg6 : FVec F S64 .f32) (main_v62 : FVec F S256x13x13x32 .f32) (main_v67 : FVec F S256x11x11x64 .f32) : IVec S256x121x9 1 :=
  let main_v68 : FVec F S256x11x11x32 .f32 := (extractStridedSlice S256x11x11x32 ![0, 0, 1, 0] · slices_S256x13x13x32_S256x11x11x32_0_0_1_0) main_v62
  let main_v69 : FVec F S64x32x1x1 .f32 := (extractStridedSlice S64x32x1x1 ![0, 0, 0, 1] · slices_S64x32x3x3_S64x32x1x1_0_0_0_1) main_arg3
  let main_v70 : FVec F S64x32 .f32 := shapeCast S64x32 main_v69 shapeCasts_S64x32x1x1_S64x32
  let main_v71 : FVec F S32x64 .f32 := (transpose S32x64 [1, 0] · transposes_S64x32_S32x64_1_0) main_v70
  let main_v72 : FVec F S256x11x11x64 .f32 := (fun l r => Host.dotGeneral dot_S256x11x11x32_S32x64_S256x11x11x64_3_0_012_1_n_n none l r) main_v68 main_v71
  let main_v73 : FVec F S256x11x11x64 .f32 := addf main_v67 main_v72
  let main_v74 : FVec F S256x11x11x32 .f32 := (extractStridedSlice S256x11x11x32 ![0, 0, 2, 0] · slices_S256x13x13x32_S256x11x11x32_0_0_2_0) main_v62
  let main_v75 : FVec F S64x32x1x1 .f32 := (extractStridedSlice S64x32x1x1 ![0, 0, 0, 2] · slices_S64x32x3x3_S64x32x1x1_0_0_0_2) main_arg3
  let main_v76 : FVec F S64x32 .f32 := shapeCast S64x32 main_v75 shapeCasts_S64x32x1x1_S64x32
  let main_v77 : FVec F S32x64 .f32 := (transpose S32x64 [1, 0] · transposes_S64x32_S32x64_1_0) main_v76
  let main_v78 : FVec F S256x11x11x64 .f32 := (fun l r => Host.dotGeneral dot_S256x11x11x32_S32x64_S256x11x11x64_3_0_012_1_n_n none l r) main_v74 main_v77
  let main_v79 : FVec F S256x11x11x64 .f32 := addf main_v73 main_v78
  let main_v80 : FVec F S256x11x11x32 .f32 := (extractStridedSlice S256x11x11x32 ![0, 1, 0, 0] · slices_S256x13x13x32_S256x11x11x32_0_1_0_0) main_v62
  let main_v81 : FVec F S64x32x1x1 .f32 := (extractStridedSlice S64x32x1x1 ![0, 0, 1, 0] · slices_S64x32x3x3_S64x32x1x1_0_0_1_0) main_arg3
  let main_v82 : FVec F S64x32 .f32 := shapeCast S64x32 main_v81 shapeCasts_S64x32x1x1_S64x32
  let main_v83 : FVec F S32x64 .f32 := (transpose S32x64 [1, 0] · transposes_S64x32_S32x64_1_0) main_v82
  let main_v84 : FVec F S256x11x11x64 .f32 := (fun l r => Host.dotGeneral dot_S256x11x11x32_S32x64_S256x11x11x64_3_0_012_1_n_n none l r) main_v80 main_v83
  let main_v85 : FVec F S256x11x11x64 .f32 := addf main_v79 main_v84
  let main_v86 : FVec F S256x11x11x32 .f32 := (extractStridedSlice S256x11x11x32 ![0, 1, 1, 0] · slices_S256x13x13x32_S256x11x11x32_0_1_1_0) main_v62
  let main_v87 : FVec F S64x32x1x1 .f32 := (extractStridedSlice S64x32x1x1 ![0, 0, 1, 1] · slices_S64x32x3x3_S64x32x1x1_0_0_1_1) main_arg3
  let main_v88 : FVec F S64x32 .f32 := shapeCast S64x32 main_v87 shapeCasts_S64x32x1x1_S64x32
  let main_v89 : FVec F S32x64 .f32 := (transpose S32x64 [1, 0] · transposes_S64x32_S32x64_1_0) main_v88
  let main_v90 : FVec F S256x11x11x64 .f32 := (fun l r => Host.dotGeneral dot_S256x11x11x32_S32x64_S256x11x11x64_3_0_012_1_n_n none l r) main_v86 main_v89
  let main_v91 : FVec F S256x11x11x64 .f32 := addf main_v85 main_v90
  fn_part4 (F := F) main_arg3 main_arg4 main_arg5 main_arg6 main_v62 main_v91

def fn_part2 {F : FTy → Type} [FloatOps F] (main_arg1 : FVec F S32x200x3x3 .f32) (main_arg2 : FVec F S32 .f32) (main_arg3 : FVec F S64x32x3x3 .f32) (main_arg4 : FVec F S64 .f32) (main_arg5 : FVec F S64x64x3x3 .f32) (main_arg6 : FVec F S64 .f32) (main_v1 : FVec F S256x13x13x200 .f32) (main_v42 : FVec F S256x11x11x32 .f32) (main_v43 : FVec F S256x11x11x200 .f32) (main_v46 : FVec F S200x32 .f32) : IVec S256x121x9 1 :=
  let main_v47 : FVec F S256x11x11x32 .f32 := (fun l r => Host.dotGeneral dot_S256x11x11x200_S200x32_S256x11x11x32_3_0_012_1_n_n none l r) main_v43 main_v46
  let main_v48 : FVec F S256x11x11x32 .f32 := addf main_v42 main_v47
  let main_v49 : FVec F S256x11x11x200 .f32 := (extractStridedSlice S256x11x11x200 ![0, 2, 2, 0] · slices_S256x13x13x200_S256x11x11x200_0_2_2_0) main_v1
  let main_v50 : FVec F S32x200x1x1 .f32 := (extractStridedSlice S32x200x1x1 ![0, 0, 2, 2] · slices_S32x200x3x3_S32x200x1x1_0_0_2_2) main_arg1
  let main_v51 : FVec F S32x200 .f32 := shapeCast S32x200 main_v50 shapeCasts_S32x200x1x1_S32x200
  let main_v52 : FVec F S200x32 .f32 := (transpose S200x32 [1, 0] · transposes_S32x200_S200x32_1_0) main_v51
  let main_v53 : FVec F S256x11x11x32 .f32 := (fun l r => Host.dotGeneral dot_S256x11x11x200_S200x32_S256x11x11x32_3_0_012_1_n_n none l r) main_v49 main_v52
  let main_v54 : FVec F S256x11x11x32 .f32 := addf main_v48 main_v53
  let main_v55 : FVec F S1x1x1x32 .f32 := broadcastInDim S1x1x1x32 ![3] bcast_S32_S1x1x1x32_3 main_arg2
  let main_v56 : FVec F S256x11x11x32 .f32 := broadcastInDim S256x11x11x32 ![0, 1, 2, 3] bcast_S1x1x1x32_S256x11x11x32_0_1_2_3 main_v55
  let main_v57 : FVec F S256x11x11x32 .f32 := addf main_v54 main_v56
  let main_cst_0 : FVec F S_ .f32 := constant S_ .f32 0x3F80002A#32
  let main_v58 : FVec F S256x11x11x32 .f32 := broadcastInDim S256x11x11x32 ![] bcast_S_S256x11x11x32 main_cst_0
  let main_v59 : FVec F S256x11x11x32 .f32 := Host.divf main_v57 main_v58
  let main_cst_1 : FVec F S_ .f32 := constant S_ .f32 0x00000000#32
  let main_v60 : FVec F S256x11x11x32 .f32 := broadcastInDim S256x11x11x32 ![] bcast_S_S256x11x11x32 main_cst_1
  let main_v61 : FVec F S256x11x11x32 .f32 := maximumf main_v59 main_v60
  let main_cst_2 : FVec F S_ .f32 := constant S_ .f32 0x00000000#32
  let main_v62 : FVec F S256x13x13x32 .f32 := (fun x v => pad S256x13x13x32 ![0, 1, 1, 0] ![0, 1, 1, 0] ![0, 0, 0, 0] x v pads_S256x11x11x32_S256x13x13x32_000_110_110_000 h_S_) main_v61 main_cst_2
  let main_v63 : FVec F S256x11x11x32 .f32 := (extractStridedSlice S256x11x11x32 ![0, 0, 0, 0] · slices_S256x13x13x32_S256x11x11x32_0_0_0_0) main_v62
  let main_v64 : FVec F S64x32x1x1 .f32 := (extractStridedSlice S64x32x1x1 ![0, 0, 0, 0] · slices_S64x32x3x3_S64x32x1x1_0_0_0_0) main_arg3
  let main_v65 : FVec F S64x32 .f32 := shapeCast S64x32 main_v64 shapeCasts_S64x32x1x1_S64x32
  let main_v66 : FVec F S32x64 .f32 := (transpose S32x64 [1, 0] · transposes_S64x32_S32x64_1_0) main_v65
  let main_v67 : FVec F S256x11x11x64 .f32 := (fun l r => Host.dotGeneral dot_S256x11x11x32_S32x64_S256x11x11x64_3_0_012_1_n_n none l r) main_v63 main_v66
  fn_part3 (F := F) main_arg3 main_arg4 main_arg5 main_arg6 main_v62 main_v67

def fn_part1 {F : FTy → Type} [FloatOps F] (main_arg1 : FVec F S32x200x3x3 .f32) (main_arg2 : FVec F S32 .f32) (main_arg3 : FVec F S64x32x3x3 .f32) (main_arg4 : FVec F S64 .f32) (main_arg5 : FVec F S64x64x3x3 .f32) (main_arg6 : FVec F S64 .f32) (main_v1 : FVec F S256x13x13x200 .f32) (main_v18 : FVec F S256x11x11x32 .f32) (main_v19 : FVec F S256x11x11x200 .f32) (main_v22 : FVec F S200x32 .f32) : IVec S256x121x9 1 :=
  let main_v23 : FVec F S256x11x11x32 .f32 := (fun l r => Host.dotGeneral dot_S256x11x11x200_S200x32_S256x11x11x32_3_0_012_1_n_n none l r) main_v19 main_v22
  let main_v24 : FVec F S256x11x11x32 .f32 := addf main_v18 main_v23
  let main_v25 : FVec F S256x11x11x200 .f32 := (extractStridedSlice S256x11x11x200 ![0, 1, 1, 0] · slices_S256x13x13x200_S256x11x11x200_0_1_1_0) main_v1
  let main_v26 : FVec F S32x200x1x1 .f32 := (extractStridedSlice S32x200x1x1 ![0, 0, 1, 1] · slices_S32x200x3x3_S32x200x1x1_0_0_1_1) main_arg1
  let main_v27 : FVec F S32x200 .f32 := shapeCast S32x200 main_v26 shapeCasts_S32x200x1x1_S32x200
  let main_v28 : FVec F S200x32 .f32 := (transpose S200x32 [1, 0] · transposes_S32x200_S200x32_1_0) main_v27
  let main_v29 : FVec F S256x11x11x32 .f32 := (fun l r => Host.dotGeneral dot_S256x11x11x200_S200x32_S256x11x11x32_3_0_012_1_n_n none l r) main_v25 main_v28
  let main_v30 : FVec F S256x11x11x32 .f32 := addf main_v24 main_v29
  let main_v31 : FVec F S256x11x11x200 .f32 := (extractStridedSlice S256x11x11x200 ![0, 1, 2, 0] · slices_S256x13x13x200_S256x11x11x200_0_1_2_0) main_v1
  let main_v32 : FVec F S32x200x1x1 .f32 := (extractStridedSlice S32x200x1x1 ![0, 0, 1, 2] · slices_S32x200x3x3_S32x200x1x1_0_0_1_2) main_arg1
  let main_v33 : FVec F S32x200 .f32 := shapeCast S32x200 main_v32 shapeCasts_S32x200x1x1_S32x200
  let main_v34 : FVec F S200x32 .f32 := (transpose S200x32 [1, 0] · transposes_S32x200_S200x32_1_0) main_v33
  let main_v35 : FVec F S256x11x11x32 .f32 := (fun l r => Host.dotGeneral dot_S256x11x11x200_S200x32_S256x11x11x32_3_0_012_1_n_n none l r) main_v31 main_v34
  let main_v36 : FVec F S256x11x11x32 .f32 := addf main_v30 main_v35
  let main_v37 : FVec F S256x11x11x200 .f32 := (extractStridedSlice S256x11x11x200 ![0, 2, 0, 0] · slices_S256x13x13x200_S256x11x11x200_0_2_0_0) main_v1
  let main_v38 : FVec F S32x200x1x1 .f32 := (extractStridedSlice S32x200x1x1 ![0, 0, 2, 0] · slices_S32x200x3x3_S32x200x1x1_0_0_2_0) main_arg1
  let main_v39 : FVec F S32x200 .f32 := shapeCast S32x200 main_v38 shapeCasts_S32x200x1x1_S32x200
  let main_v40 : FVec F S200x32 .f32 := (transpose S200x32 [1, 0] · transposes_S32x200_S200x32_1_0) main_v39
  let main_v41 : FVec F S256x11x11x32 .f32 := (fun l r => Host.dotGeneral dot_S256x11x11x200_S200x32_S256x11x11x32_3_0_012_1_n_n none l r) main_v37 main_v40
  let main_v42 : FVec F S256x11x11x32 .f32 := addf main_v36 main_v41
  let main_v43 : FVec F S256x11x11x200 .f32 := (extractStridedSlice S256x11x11x200 ![0, 2, 1, 0] · slices_S256x13x13x200_S256x11x11x200_0_2_1_0) main_v1
  let main_v44 : FVec F S32x200x1x1 .f32 := (extractStridedSlice S32x200x1x1 ![0, 0, 2, 1] · slices_S32x200x3x3_S32x200x1x1_0_0_2_1) main_arg1
  let main_v45 : FVec F S32x200 .f32 := shapeCast S32x200 main_v44 shapeCasts_S32x200x1x1_S32x200
  let main_v46 : FVec F S200x32 .f32 := (transpose S200x32 [1, 0] · transposes_S32x200_S200x32_1_0) main_v45
  fn_part2 (F := F) main_arg1 main_arg2 main_arg3 main_arg4 main_arg5 main_arg6 main_v1 main_v42 main_v43 main_v46

def fn {F : FTy → Type} [FloatOps F] (main_arg0 : FVec F S256x200x11x11 .f32) (main_arg1 : FVec F S32x200x3x3 .f32) (main_arg2 : FVec F S32 .f32) (main_arg3 : FVec F S64x32x3x3 .f32) (main_arg4 : FVec F S64 .f32) (main_arg5 : FVec F S64x64x3x3 .f32) (main_arg6 : FVec F S64 .f32) (main_arg7 : FVec F S64x64 .f32) (main_arg8 : FVec F S64x64 .f32) (main_arg9 : FVec F S64 .f32) (main_arg10 : FVec F S64x3 .f32) (main_arg11 : FVec F S64x2 .f32) (main_arg12 : FVec F S64x9 .f32) (main_arg13 : FVec F S64x9 .f32) (main_arg14 : FVec F S16x64 .f32) (main_arg15 : FVec F S16 .f32) (main_arg16 : FVec F S64x16 .f32) (main_arg17 : FVec F S64 .f32) (main_arg18 : FVec F S128x64 .f32) (main_arg19 : FVec F S128 .f32) (main_arg20 : FVec F S16x128 .f32) (main_arg21 : FVec F S16 .f32) : IVec S256x121x9 1 :=
  let main_v0 : FVec F S256x11x11x200 .f32 := (transpose S256x11x11x200 [0, 2, 3, 1] · transposes_S256x200x11x11_S256x11x11x200_0_2_3_1) main_arg0
  let main_cst : FVec F S_ .f32 := constant S_ .f32 0x00000000#32
  let main_v1 : FVec F S256x13x13x200 .f32 := (fun x v => pad S256x13x13x200 ![0, 1, 1, 0] ![0, 1, 1, 0] ![0, 0, 0, 0] x v pads_S256x11x11x200_S256x13x13x200_000_110_110_000 h_S_) main_v0 main_cst
  let main_v2 : FVec F S256x11x11x200 .f32 := (extractStridedSlice S256x11x11x200 ![0, 0, 0, 0] · slices_S256x13x13x200_S256x11x11x200_0_0_0_0) main_v1
  let main_v3 : FVec F S32x200x1x1 .f32 := (extractStridedSlice S32x200x1x1 ![0, 0, 0, 0] · slices_S32x200x3x3_S32x200x1x1_0_0_0_0) main_arg1
  let main_v4 : FVec F S32x200 .f32 := shapeCast S32x200 main_v3 shapeCasts_S32x200x1x1_S32x200
  let main_v5 : FVec F S200x32 .f32 := (transpose S200x32 [1, 0] · transposes_S32x200_S200x32_1_0) main_v4
  let main_v6 : FVec F S256x11x11x32 .f32 := (fun l r => Host.dotGeneral dot_S256x11x11x200_S200x32_S256x11x11x32_3_0_012_1_n_n none l r) main_v2 main_v5
  let main_v7 : FVec F S256x11x11x200 .f32 := (extractStridedSlice S256x11x11x200 ![0, 0, 1, 0] · slices_S256x13x13x200_S256x11x11x200_0_0_1_0) main_v1
  let main_v8 : FVec F S32x200x1x1 .f32 := (extractStridedSlice S32x200x1x1 ![0, 0, 0, 1] · slices_S32x200x3x3_S32x200x1x1_0_0_0_1) main_arg1
  let main_v9 : FVec F S32x200 .f32 := shapeCast S32x200 main_v8 shapeCasts_S32x200x1x1_S32x200
  let main_v10 : FVec F S200x32 .f32 := (transpose S200x32 [1, 0] · transposes_S32x200_S200x32_1_0) main_v9
  let main_v11 : FVec F S256x11x11x32 .f32 := (fun l r => Host.dotGeneral dot_S256x11x11x200_S200x32_S256x11x11x32_3_0_012_1_n_n none l r) main_v7 main_v10
  let main_v12 : FVec F S256x11x11x32 .f32 := addf main_v6 main_v11
  let main_v13 : FVec F S256x11x11x200 .f32 := (extractStridedSlice S256x11x11x200 ![0, 0, 2, 0] · slices_S256x13x13x200_S256x11x11x200_0_0_2_0) main_v1
  let main_v14 : FVec F S32x200x1x1 .f32 := (extractStridedSlice S32x200x1x1 ![0, 0, 0, 2] · slices_S32x200x3x3_S32x200x1x1_0_0_0_2) main_arg1
  let main_v15 : FVec F S32x200 .f32 := shapeCast S32x200 main_v14 shapeCasts_S32x200x1x1_S32x200
  let main_v16 : FVec F S200x32 .f32 := (transpose S200x32 [1, 0] · transposes_S32x200_S200x32_1_0) main_v15
  let main_v17 : FVec F S256x11x11x32 .f32 := (fun l r => Host.dotGeneral dot_S256x11x11x200_S200x32_S256x11x11x32_3_0_012_1_n_n none l r) main_v13 main_v16
  let main_v18 : FVec F S256x11x11x32 .f32 := addf main_v12 main_v17
  let main_v19 : FVec F S256x11x11x200 .f32 := (extractStridedSlice S256x11x11x200 ![0, 1, 0, 0] · slices_S256x13x13x200_S256x11x11x200_0_1_0_0) main_v1
  let main_v20 : FVec F S32x200x1x1 .f32 := (extractStridedSlice S32x200x1x1 ![0, 0, 1, 0] · slices_S32x200x3x3_S32x200x1x1_0_0_1_0) main_arg1
  let main_v21 : FVec F S32x200 .f32 := shapeCast S32x200 main_v20 shapeCasts_S32x200x1x1_S32x200
  let main_v22 : FVec F S200x32 .f32 := (transpose S200x32 [1, 0] · transposes_S32x200_S200x32_1_0) main_v21
  fn_part1 (F := F) main_arg1 main_arg2 main_arg3 main_arg4 main_arg5 main_arg6 main_v1 main_v18 main_v19 main_v22
-- ==== Kernel.lean ====
abbrev S256x200x11x11 : Shape := ⟨4, ![256, 200, 11, 11]⟩
abbrev S32x200x3x3 : Shape := ⟨4, ![32, 200, 3, 3]⟩
abbrev S32 : Shape := ⟨1, ![32]⟩
abbrev S64x32x3x3 : Shape := ⟨4, ![64, 32, 3, 3]⟩
abbrev S64 : Shape := ⟨1, ![64]⟩
abbrev S64x64x3x3 : Shape := ⟨4, ![64, 64, 3, 3]⟩
abbrev S64x64 : Shape := ⟨2, ![64, 64]⟩
abbrev S64x3 : Shape := ⟨2, ![64, 3]⟩
abbrev S64x2 : Shape := ⟨2, ![64, 2]⟩
abbrev S64x9 : Shape := ⟨2, ![64, 9]⟩
abbrev S16x64 : Shape := ⟨2, ![16, 64]⟩
abbrev S16 : Shape := ⟨1, ![16]⟩
abbrev S64x16 : Shape := ⟨2, ![64, 16]⟩
abbrev S128x64 : Shape := ⟨2, ![128, 64]⟩
abbrev S128 : Shape := ⟨1, ![128]⟩
abbrev S16x128 : Shape := ⟨2, ![16, 128]⟩
abbrev S256x200x121 : Shape := ⟨3, ![256, 200, 121]⟩
abbrev S3x3x200x32 : Shape := ⟨4, ![3, 3, 200, 32]⟩
abbrev S9x200x32 : Shape := ⟨3, ![9, 200, 32]⟩
abbrev S3x3x32x64 : Shape := ⟨4, ![3, 3, 32, 64]⟩
abbrev S9x32x64 : Shape := ⟨3, ![9, 32, 64]⟩
abbrev S3x3x64x64 : Shape := ⟨4, ![3, 3, 64, 64]⟩
abbrev S9x64x64 : Shape := ⟨3, ![9, 64, 64]⟩
abbrev S1x32 : Shape := ⟨2, ![1, 32]⟩
abbrev S1x64 : Shape := ⟨2, ![1, 64]⟩
abbrev S3x64 : Shape := ⟨2, ![3, 64]⟩
abbrev S2x64 : Shape := ⟨2, ![2, 64]⟩
abbrev S9x64 : Shape := ⟨2, ![9, 64]⟩
abbrev S1x16 : Shape := ⟨2, ![1, 16]⟩
abbrev S256x1x64 : Shape := ⟨3, ![256, 1, 64]⟩
abbrev S32x200x121 : Shape := ⟨3, ![32, 200, 121]⟩
abbrev S32x1x64 : Shape := ⟨3, ![32, 1, 64]⟩
abbrev S32x121x200 : Shape := ⟨3, ![32, 121, 200]⟩
abbrev S32x16x200 : Shape := ⟨3, ![32, 16, 200]⟩
abbrev S32x137x200 : Shape := ⟨3, ![32, 137, 200]⟩
abbrev S32x23x200 : Shape := ⟨3, ![32, 23, 200]⟩
abbrev S32x160x200 : Shape := ⟨3, ![32, 160, 200]⟩
abbrev S32x128x200 : Shape := ⟨3, ![32, 128, 200]⟩
abbrev S4096x200 : Shape := ⟨2, ![4096, 200]⟩
abbrev S1x200x32 : Shape := ⟨3, ![1, 200, 32]⟩
abbrev S200x32 : Shape := ⟨2, ![200, 32]⟩
abbrev S4096x32 : Shape := ⟨2, ![4096, 32]⟩
abbrev S4096x1 : Shape := ⟨2, ![4096, 1]⟩
abbrev S32x128x32 : Shape := ⟨3, ![32, 128, 32]⟩
abbrev S32x16x32 : Shape := ⟨3, ![32, 16, 32]⟩
abbrev S32x144x32 : Shape := ⟨3, ![32, 144, 32]⟩
abbrev S32x160x32 : Shape := ⟨3, ![32, 160, 32]⟩
abbrev S1x32x64 : Shape := ⟨3, ![1, 32, 64]⟩
abbrev S32x64 : Shape := ⟨2, ![32, 64]⟩
abbrev S4096x64 : Shape := ⟨2, ![4096, 64]⟩
abbrev S32x128x64 : Shape := ⟨3, ![32, 128, 64]⟩
abbrev S32x16x64 : Shape := ⟨3, ![32, 16, 64]⟩
abbrev S32x144x64 : Shape := ⟨3, ![32, 144, 64]⟩
abbrev S32x160x64 : Shape := ⟨3, ![32, 160, 64]⟩
abbrev S1x64x64 : Shape := ⟨3, ![1, 64, 64]⟩
abbrev S32x128x128 : Shape := ⟨3, ![32, 128, 128]⟩
abbrev S32x128 : Shape := ⟨2, ![32, 128]⟩
abbrev S32x128x1 : Shape := ⟨3, ![32, 128, 1]⟩
abbrev S1x128x128 : Shape := ⟨3, ![1, 128, 128]⟩
abbrev S32x1x128 : Shape := ⟨3, ![32, 1, 128]⟩
abbrev S4096x16 : Shape := ⟨2, ![4096, 16]⟩
abbrev S1x128x1 : Shape := ⟨3, ![1, 128, 1]⟩
abbrev S256x64 : Shape := ⟨2, ![256, 64]⟩
abbrev S64x128 : Shape := ⟨2, ![64, 128]⟩
abbrev S1x128 : Shape := ⟨2, ![1, 128]⟩
abbrev S128x16 : Shape := ⟨2, ![128, 16]⟩
abbrev S256x16 : Shape := ⟨2, ![256, 16]⟩
abbrev S256x128 : Shape := ⟨2, ![256, 128]⟩

abbrev nBuf : Space → Nat
  | .hbm => 48
  | .vmem => 27
  | .smem => 0
  | _ => 0

abbrev bufTy : (tb : Table) → Fin (tcTables nBuf tb) → BufTy
  | .hbm, ⟨0, _⟩ => ⟨S256x200x11x11, .f32⟩
  | .hbm, ⟨1, _⟩ => ⟨S32x200x3x3, .f32⟩
  | .hbm, ⟨2, _⟩ => ⟨S32, .f32⟩
  | .hbm, ⟨3, _⟩ => ⟨S64x32x3x3, .f32⟩
  | .hbm, ⟨4, _⟩ => ⟨S64, .f32⟩
  | .hbm, ⟨5, _⟩ => ⟨S64x64x3x3, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S64x2, .f32⟩
  | .hbm, ⟨12, _⟩ => ⟨S64x9, .f32⟩
  | .hbm, ⟨13, _⟩ => ⟨S64x9, .f32⟩
  | .hbm, ⟨14, _⟩ => ⟨S16x64, .f32⟩
  | .hbm, ⟨15, _⟩ => ⟨S16, .f32⟩
  | .hbm, ⟨16, _⟩ => ⟨S64x16, .f32⟩
  | .hbm, ⟨17, _⟩ => ⟨S64, .f32⟩
  | .hbm, ⟨18, _⟩ => ⟨S128x64, .f32⟩
  | .hbm, ⟨19, _⟩ => ⟨S128, .f32⟩
  | .hbm, ⟨20, _⟩ => ⟨S16x128, .f32⟩
  | .hbm, ⟨21, _⟩ => ⟨S16, .f32⟩
  | .hbm, ⟨22, _⟩ => ⟨S256x200x121, .f32⟩
  | .hbm, ⟨23, _⟩ => ⟨S3x3x200x32, .f32⟩
  | .hbm, ⟨24, _⟩ => ⟨S9x200x32, .f32⟩
  | .hbm, ⟨25, _⟩ => ⟨S3x3x32x64, .f32⟩
  | .hbm, ⟨26, _⟩ => ⟨S9x32x64, .f32⟩
  | .hbm, ⟨27, _⟩ => ⟨S3x3x64x64, .f32⟩
  | .hbm, ⟨28, _⟩ => ⟨S9x64x64, .f32⟩
  | .hbm, ⟨29, _⟩ => ⟨S1x32, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S3x64, .f32⟩
  | .hbm, ⟨34, _⟩ => ⟨S2x64, .f32⟩
  | .hbm, ⟨35, _⟩ => ⟨S9x64, .f32⟩
  | .hbm, ⟨36, _⟩ => ⟨S9x64, .f32⟩
  | .hbm, ⟨37, _⟩ => ⟨S64x16, .f32⟩
  | .hbm, ⟨38, _⟩ => ⟨S1x16, .f32⟩
  | .hbm, ⟨39, _⟩ => ⟨S16x64, .f32⟩
  | .hbm, ⟨40, _⟩ => ⟨S1x64, .f32⟩
  | .hbm, ⟨41, _⟩ => ⟨S256x1x64, .f32⟩
  | .hbm, ⟨42, _⟩ => ⟨S256x64, .f32⟩
  | .hbm, ⟨43, _⟩ => ⟨S64x128, .f32⟩
  | .hbm, ⟨44, _⟩ => ⟨S1x128, .f32⟩
  | .hbm, ⟨45, _⟩ => ⟨S128x16, .f32⟩
  | .hbm, ⟨46, _⟩ => ⟨S1x16, .f32⟩
  | .hbm, ⟨47, _⟩ => ⟨S256x16, .f32⟩
  | .local _ .vmem, ⟨0, _⟩ => ⟨S32x200x121, .f32⟩
  | .local _ .vmem, ⟨1, _⟩ => ⟨S32x200x121, .f32⟩
  | .local _ .vmem, ⟨2, _⟩ => ⟨S9x200x32, .f32⟩
  | .local _ .vmem, ⟨3, _⟩ => ⟨S1x32, .f32⟩
  | .local _ .vmem, ⟨4, _⟩ => ⟨S9x32x64, .f32⟩
  | .local _ .vmem, ⟨5, _⟩ => ⟨S1x64, .f32⟩
  | .local _ .vmem, ⟨6, _⟩ => ⟨S9x64x64, .f32⟩
  | .local _ .vmem, ⟨7, _⟩ => ⟨S1x64, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S3x64, .f32⟩
  | .local _ .vmem, ⟨12, _⟩ => ⟨S2x64, .f32⟩
  | .local _ .vmem, ⟨13, _⟩ => ⟨S9x64, .f32⟩
  | .local _ .vmem, ⟨14, _⟩ => ⟨S9x64, .f32⟩
  | .local _ .vmem, ⟨15, _⟩ => ⟨S64x16, .f32⟩
  | .local _ .vmem, ⟨16, _⟩ => ⟨S1x16, .f32⟩
  | .local _ .vmem, ⟨17, _⟩ => ⟨S16x64, .f32⟩
  | .local _ .vmem, ⟨18, _⟩ => ⟨S1x64, .f32⟩
  | .local _ .vmem, ⟨19, _⟩ => ⟨S32x1x64, .f32⟩
  | .local _ .vmem, ⟨20, _⟩ => ⟨S32x1x64, .f32⟩
  | .local _ .vmem, ⟨21, _⟩ => ⟨S256x64, .f32⟩
  | .local _ .vmem, ⟨22, _⟩ => ⟨S64x128, .f32⟩
  | .local _ .vmem, ⟨23, _⟩ => ⟨S1x128, .f32⟩
  | .local _ .vmem, ⟨24, _⟩ => ⟨S128x16, .f32⟩
  | .local _ .vmem, ⟨25, _⟩ => ⟨S1x16, .f32⟩
  | .local _ .vmem, ⟨26, _⟩ => ⟨S256x16, .f32⟩
  | _, _ => ⟨S256x200x11x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc1_stg0_0 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc1_sem0_0 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200x121 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x200x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S9x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S32x1x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := .none

abbrev stage1_0 : Fin 1 → Memref sig .tc .vmem S256x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== KernelIdeal.lean ====
variable {F : FTy → Type} [FloatOps F] [Named F]
def κ : String → Option EReal := fun
  | "inv_degree" => some ((8796093022208 / 70368752973757 : ℝ) : EReal)
  | "nine_eps" => some ((129703671 / 144115188075855872 : ℝ) : EReal)
  | _ => none
-- ==== ReferenceIdeal.lean ====
abbrev S256x200x11x11 : Shape := ⟨4, ![256, 200, 11, 11]⟩
abbrev S32x200x3x3 : Shape := ⟨4, ![32, 200, 3, 3]⟩
abbrev S32 : Shape := ⟨1, ![32]⟩
abbrev S64x32x3x3 : Shape := ⟨4, ![64, 32, 3, 3]⟩
abbrev S64 : Shape := ⟨1, ![64]⟩
abbrev S64x64x3x3 : Shape := ⟨4, ![64, 64, 3, 3]⟩
abbrev S64x64 : Shape := ⟨2, ![64, 64]⟩
abbrev S64x3 : Shape := ⟨2, ![64, 3]⟩
abbrev S64x2 : Shape := ⟨2, ![64, 2]⟩
abbrev S64x9 : Shape := ⟨2, ![64, 9]⟩
abbrev S16x64 : Shape := ⟨2, ![16, 64]⟩
abbrev S16 : Shape := ⟨1, ![16]⟩
abbrev S64x16 : Shape := ⟨2, ![64, 16]⟩
abbrev S128x64 : Shape := ⟨2, ![128, 64]⟩
abbrev S128 : Shape := ⟨1, ![128]⟩
abbrev S16x128 : Shape := ⟨2, ![16, 128]⟩
abbrev S256x11x11x200 : Shape := ⟨4, ![256, 11, 11, 200]⟩
abbrev S_ : Shape := ⟨0, ![]⟩
abbrev S256x13x13x200 : Shape := ⟨4, ![256, 13, 13, 200]⟩
abbrev S32x200x1x1 : Shape := ⟨4, ![32, 200, 1, 1]⟩
abbrev S32x200 : Shape := ⟨2, ![32, 200]⟩
abbrev S200x32 : Shape := ⟨2, ![200, 32]⟩
abbrev S256x11x11x32 : Shape := ⟨4, ![256, 11, 11, 32]⟩
abbrev S1x1x1x32 : Shape := ⟨4, ![1, 1, 1, 32]⟩
abbrev S256x13x13x32 : Shape := ⟨4, ![256, 13, 13, 32]⟩
abbrev S64x32x1x1 : Shape := ⟨4, ![64, 32, 1, 1]⟩
abbrev S64x32 : Shape := ⟨2, ![64, 32]⟩
abbrev S32x64 : Shape := ⟨2, ![32, 64]⟩
abbrev S256x11x11x64 : Shape := ⟨4, ![256, 11, 11, 64]⟩
abbrev S1x1x1x64 : Shape := ⟨4, ![1, 1, 1, 64]⟩
abbrev S256x13x13x64 : Shape := ⟨4, ![256, 13, 13, 64]⟩
abbrev S64x64x1x1 : Shape := ⟨4, ![64, 64, 1, 1]⟩
abbrev S256x121x64 : Shape := ⟨3, ![256, 121, 64]⟩
abbrev S256x121 : Shape := ⟨2, ![256, 121]⟩
abbrev S256x121x1 : Shape := ⟨3, ![256, 121, 1]⟩
abbrev S256x64x121 : Shape := ⟨3, ![256, 64, 121]⟩
abbrev S256x121x121 : Shape := ⟨3, ![256, 121, 121]⟩
abbrev S256x1x121 : Shape := ⟨3, ![256, 1, 121]⟩
abbrev S256x121x9 : Shape := ⟨3, ![256, 121, 9]⟩
abbrev S256x121x8 : Shape := ⟨3, ![256, 121, 8]⟩
abbrev S256 : Shape := ⟨1, ![256]⟩
abbrev S256x1x1 : Shape := ⟨3, ![256, 1, 1]⟩
abbrev S121 : Shape := ⟨1, ![121]⟩
abbrev S1x121x1 : Shape := ⟨3, ![1, 121, 1]⟩
abbrev S256x121x8x1 : Shape := ⟨4, ![256, 121, 8, 1]⟩
abbrev S256x121x8x3 : Shape := ⟨4, ![256, 121, 8, 3]⟩
abbrev S121x121 : Shape := ⟨2, ![121, 121]⟩
abbrev S1x121x121 : Shape := ⟨3, ![1, 121, 121]⟩
abbrev S1x1x64 : Shape := ⟨3, ![1, 1, 64]⟩
abbrev S64x1 : Shape := ⟨2, ![64, 1]⟩
abbrev S256x121x64x1 : Shape := ⟨4, ![256, 121, 64, 1]⟩
abbrev S1x1x64x9 : Shape := ⟨4, ![1, 1, 64, 9]⟩
abbrev S256x121x64x9 : Shape := ⟨4, ![256, 121, 64, 9]⟩
abbrev S256x121x16 : Shape := ⟨3, ![256, 121, 16]⟩
abbrev S1x1x16 : Shape := ⟨3, ![1, 1, 16]⟩
abbrev S256x64 : Shape := ⟨2, ![256, 64]⟩
abbrev S64x128 : Shape := ⟨2, ![64, 128]⟩
abbrev S256x128 : Shape := ⟨2, ![256, 128]⟩
abbrev S1x128 : Shape := ⟨2, ![1, 128]⟩
abbrev S128x16 : Shape := ⟨2, ![128, 16]⟩
abbrev S256x16 : Shape := ⟨2, ![256, 16]⟩
abbrev S1x16 : Shape := ⟨2, ![1, 16]⟩

abbrev nBuf : Space → Nat
  | .hbm => 421
  | .vmem => 0
  | .smem => 0
  | _ => 0

abbrev hbmTy0_0 (i : Nat) : BufTy := match i % 128 with
  | 0 => ⟨S256x200x11x11, .f32⟩
  | 1 => ⟨S32x200x3x3, .f32⟩
  | 2 => ⟨S32, .f32⟩
  | 3 => ⟨S64x32x3x3, .f32⟩
  | 4 => ⟨S64, .f32⟩
  | 5 => ⟨S64x64x3x3, .f32⟩
  | 6 => ⟨S64, .f32⟩
  | 7 => ⟨S64x64, .f32⟩
  | 8 => ⟨S64x64, .f32⟩
  | 9 => ⟨S64, .f32⟩
  | 10 => ⟨S64x3, .f32⟩
  | 11 => ⟨S64x2, .f32⟩
  | 12 => ⟨S64x9, .f32⟩
  | 13 => ⟨S64x9, .f32⟩
  | 14 => ⟨S16x64, .f32⟩
  | 15 => ⟨S16, .f32⟩
  | 16 => ⟨S64x16, .f32⟩
  | 17 => ⟨S64, .f32⟩
  | 18 => ⟨S128x64, .f32⟩
  | 19 => ⟨S128, .f32⟩
  | 20 => ⟨S16x128, .f32⟩
  | 21 => ⟨S16, .f32⟩
  | 22 => ⟨S256x11x11x200, .f32⟩
  | 23 => ⟨S_, .f32⟩
  | 24 => ⟨S256x13x13x200, .f32⟩
  | 25 => ⟨S256x11x11x200, .f32⟩
  | 26 => ⟨S32x200x1x1, .f32⟩
  | 27 => ⟨S32x200, .f32⟩
  | 28 => ⟨S200x32, .f32⟩
  | 29 => ⟨S256x11x11x32, .f32⟩
  | 30 => ⟨S256x11x11x200, .f32⟩
  | 31 => ⟨S32x200x1x1, .f32⟩
  | 32 => ⟨S32x200, .f32⟩
  | 33 => ⟨S200x32, .f32⟩
  | 34 => ⟨S256x11x11x32, .f32⟩
  | 35 => ⟨S256x11x11x32, .f32⟩
  | 36 => ⟨S256x11x11x200, .f32⟩
  | 37 => ⟨S32x200x1x1, .f32⟩
  | 38 => ⟨S32x200, .f32⟩
  | 39 => ⟨S200x32, .f32⟩
  | 40 => ⟨S256x11x11x32, .f32⟩
  | 41 => ⟨S256x11x11x32, .f32⟩
  | 42 => ⟨S256x11x11x200, .f32⟩
  | 43 => ⟨S32x200x1x1, .f32⟩
  | 44 => ⟨S32x200, .f32⟩
  | 45 => ⟨S200x32, .f32⟩
  | 46 => ⟨S256x11x11x32, .f32⟩
  | 47 => ⟨S256x11x11x32, .f32⟩
  | 48 => ⟨S256x11x11x200, .f32⟩
  | 49 => ⟨S32x200x1x1, .f32⟩
  | 50 => ⟨S32x200, .f32⟩
  | 51 => ⟨S200x32, .f32⟩
  | 52 => ⟨S256x11x11x32, .f32⟩
  | 53 => ⟨S256x11x11x32, .f32⟩
  | 54 => ⟨S256x11x11x200, .f32⟩
  | 55 => ⟨S32x200x1x1, .f32⟩
  | 56 => ⟨S32x200, .f32⟩
  | 57 => ⟨S200x32, .f32⟩
  | 58 => ⟨S256x11x11x32, .f32⟩
  | 59 => ⟨S256x11x11x32, .f32⟩
  | 60 => ⟨S256x11x11x200, .f32⟩
  | 61 => ⟨S32x200x1x1, .f32⟩
  | 62 => ⟨S32x200, .f32⟩
  | 63 => ⟨S200x32, .f32⟩
  | 64 => ⟨S256x11x11x32, .f32⟩
  | 65 => ⟨S256x11x11x32, .f32⟩
  | 66 => ⟨S256x11x11x200, .f32⟩
  | 67 => ⟨S32x200x1x1, .f32⟩
  | 68 => ⟨S32x200, .f32⟩
  | 69 => ⟨S200x32, .f32⟩
  | 70 => ⟨S256x11x11x32, .f32⟩
  | 71 => ⟨S256x11x11x32, .f32⟩
  | 72 => ⟨S256x11x11x200, .f32⟩
  | 73 => ⟨S32x200x1x1, .f32⟩
  | 74 => ⟨S32x200, .f32⟩
  | 75 => ⟨S200x32, .f32⟩
  | 76 => ⟨S256x11x11x32, .f32⟩
  | 77 => ⟨S256x11x11x32, .f32⟩
  | 78 => ⟨S1x1x1x32, .f32⟩
  | 79 => ⟨S256x11x11x32, .f32⟩
  | 80 => ⟨S256x11x11x32, .f32⟩
  | 81 => ⟨S_, .f32⟩
  | 82 => ⟨S256x11x11x32, .f32⟩
  | 83 => ⟨S256x11x11x32, .f32⟩
  | 84 => ⟨S_, .f32⟩
  | 85 => ⟨S256x11x11x32, .f32⟩
  | 86 => ⟨S256x11x11x32, .f32⟩
  | 87 => ⟨S_, .f32⟩
  | 88 => ⟨S256x13x13x32, .f32⟩
  | 89 => ⟨S256x11x11x32, .f32⟩
  | 90 => ⟨S64x32x1x1, .f32⟩
  | 91 => ⟨S64x32, .f32⟩
  | 92 => ⟨S32x64, .f32⟩
  | 93 => ⟨S256x11x11x64, .f32⟩
  | 94 => ⟨S256x11x11x32, .f32⟩
  | 95 => ⟨S64x32x1x1, .f32⟩
  | 96 => ⟨S64x32, .f32⟩
  | 97 => ⟨S32x64, .f32⟩
  | 98 => ⟨S256x11x11x64, .f32⟩
  | 99 => ⟨S256x11x11x64, .f32⟩
  | 100 => ⟨S256x11x11x32, .f32⟩
  | 101 => ⟨S64x32x1x1, .f32⟩
  | 102 => ⟨S64x32, .f32⟩
  | 103 => ⟨S32x64, .f32⟩
  | 104 => ⟨S256x11x11x64, .f32⟩
  | 105 => ⟨S256x11x11x64, .f32⟩
  | 106 => ⟨S256x11x11x32, .f32⟩
  | 107 => ⟨S64x32x1x1, .f32⟩
  | 108 => ⟨S64x32, .f32⟩
  | 109 => ⟨S32x64, .f32⟩
  | 110 => ⟨S256x11x11x64, .f32⟩
  | 111 => ⟨S256x11x11x64, .f32⟩
  | 112 => ⟨S256x11x11x32, .f32⟩
  | 113 => ⟨S64x32x1x1, .f32⟩
  | 114 => ⟨S64x32, .f32⟩
  | 115 => ⟨S32x64, .f32⟩
  | 116 => ⟨S256x11x11x64, .f32⟩
  | 117 => ⟨S256x11x11x64, .f32⟩
  | 118 => ⟨S256x11x11x32, .f32⟩
  | 119 => ⟨S64x32x1x1, .f32⟩
  | 120 => ⟨S64x32, .f32⟩
  | 121 => ⟨S32x64, .f32⟩
  | 122 => ⟨S256x11x11x64, .f32⟩
  | 123 => ⟨S256x11x11x64, .f32⟩
  | 124 => ⟨S256x11x11x32, .f32⟩
  | 125 => ⟨S64x32x1x1, .f32⟩
  | 126 => ⟨S64x32, .f32⟩
  | 127 => ⟨S32x64, .f32⟩
  | _ => ⟨S256x200x11x11, .f32⟩

abbrev hbmTy0_1 (i : Nat) : BufTy := match i % 128 with
  | 0 => ⟨S256x11x11x64, .f32⟩
  | 1 => ⟨S256x11x11x64, .f32⟩
  | 2 => ⟨S256x11x11x32, .f32⟩
  | 3 => ⟨S64x32x1x1, .f32⟩
  | 4 => ⟨S64x32, .f32⟩
  | 5 => ⟨S32x64, .f32⟩
  | 6 => ⟨S256x11x11x64, .f32⟩
  | 7 => ⟨S256x11x11x64, .f32⟩
  | 8 => ⟨S256x11x11x32, .f32⟩
  | 9 => ⟨S64x32x1x1, .f32⟩
  | 10 => ⟨S64x32, .f32⟩
  | 11 => ⟨S32x64, .f32⟩
  | 12 => ⟨S256x11x11x64, .f32⟩
  | 13 => ⟨S256x11x11x64, .f32⟩
  | 14 => ⟨S1x1x1x64, .f32⟩
  | 15 => ⟨S256x11x11x64, .f32⟩
  | 16 => ⟨S256x11x11x64, .f32⟩
  | 17 => ⟨S_, .f32⟩
  | 18 => ⟨S256x11x11x64, .f32⟩
  | 19 => ⟨S256x11x11x64, .f32⟩
  | 20 => ⟨S_, .f32⟩
  | 21 => ⟨S256x11x11x64, .f32⟩
  | 22 => ⟨S256x11x11x64, .f32⟩
  | 23 => ⟨S_, .f32⟩
  | 24 => ⟨S256x13x13x64, .f32⟩
  | 25 => ⟨S256x11x11x64, .f32⟩
  | 26 => ⟨S64x64x1x1, .f32⟩
  | 27 => ⟨S64x64, .f32⟩
  | 28 => ⟨S64x64, .f32⟩
  | 29 => ⟨S256x11x11x64, .f32⟩
  | 30 => ⟨S256x11x11x64, .f32⟩
  | 31 => ⟨S64x64x1x1, .f32⟩
  | 32 => ⟨S64x64, .f32⟩
  | 33 => ⟨S64x64, .f32⟩
  | 34 => ⟨S256x11x11x64, .f32⟩
  | 35 => ⟨S256x11x11x64, .f32⟩
  | 36 => ⟨S256x11x11x64, .f32⟩
  | 37 => ⟨S64x64x1x1, .f32⟩
  | 38 => ⟨S64x64, .f32⟩
  | 39 => ⟨S64x64, .f32⟩
  | 40 => ⟨S256x11x11x64, .f32⟩
  | 41 => ⟨S256x11x11x64, .f32⟩
  | 42 => ⟨S256x11x11x64, .f32⟩
  | 43 => ⟨S64x64x1x1, .f32⟩
  | 44 => ⟨S64x64, .f32⟩
  | 45 => ⟨S64x64, .f32⟩
  | 46 => ⟨S256x11x11x64, .f32⟩
  | 47 => ⟨S256x11x11x64, .f32⟩
  | 48 => ⟨S256x11x11x64, .f32⟩
  | 49 => ⟨S64x64x1x1, .f32⟩
  | 50 => ⟨S64x64, .f32⟩
  | 51 => ⟨S64x64, .f32⟩
  | 52 => ⟨S256x11x11x64, .f32⟩
  | 53 => ⟨S256x11x11x64, .f32⟩
  | 54 => ⟨S256x11x11x64, .f32⟩
  | 55 => ⟨S64x64x1x1, .f32⟩
  | 56 => ⟨S64x64, .f32⟩
  | 57 => ⟨S64x64, .f32⟩
  | 58 => ⟨S256x11x11x64, .f32⟩
  | 59 => ⟨S256x11x11x64, .f32⟩
  | 60 => ⟨S256x11x11x64, .f32⟩
  | 61 => ⟨S64x64x1x1, .f32⟩
  | 62 => ⟨S64x64, .f32⟩
  | 63 => ⟨S64x64, .f32⟩
  | 64 => ⟨S256x11x11x64, .f32⟩
  | 65 => ⟨S256x11x11x64, .f32⟩
  | 66 => ⟨S256x11x11x64, .f32⟩
  | 67 => ⟨S64x64x1x1, .f32⟩
  | 68 => ⟨S64x64, .f32⟩
  | 69 => ⟨S64x64, .f32⟩
  | 70 => ⟨S256x11x11x64, .f32⟩
  | 71 => ⟨S256x11x11x64, .f32⟩
  | 72 => ⟨S256x11x11x64, .f32⟩
  | 73 => ⟨S64x64x1x1, .f32⟩
  | 74 => ⟨S64x64, .f32⟩
  | 75 => ⟨S64x64, .f32⟩
  | 76 => ⟨S256x11x11x64, .f32⟩
  | 77 => ⟨S256x11x11x64, .f32⟩
  | 78 => ⟨S1x1x1x64, .f32⟩
  | 79 => ⟨S256x11x11x64, .f32⟩
  | 80 => ⟨S256x11x11x64, .f32⟩
  | 81 => ⟨S_, .f32⟩
  | 82 => ⟨S256x11x11x64, .f32⟩
  | 83 => ⟨S256x11x11x64, .f32⟩
  | 84 => ⟨S_, .f32⟩
  | 85 => ⟨S256x11x11x64, .f32⟩
  | 86 => ⟨S256x11x11x64, .f32⟩
  | 87 => ⟨S256x121x64, .f32⟩
  | 88 => ⟨S256x121x64, .f32⟩
  | 89 => ⟨S_, .f32⟩
  | 90 => ⟨S256x121, .f32⟩
  | 91 => ⟨S256x121x1, .f32⟩
  | 92 => ⟨S256x64x121, .f32⟩
  | 93 => ⟨S256x121x121, .f32⟩
  | 94 => ⟨S_, .f32⟩
  | 95 => ⟨S256x121x121, .f32⟩
  | 96 => ⟨S256x121x121, .f32⟩
  | 97 => ⟨S256x121x121, .f32⟩
  | 98 => ⟨S256x121x121, .f32⟩
  | 99 => ⟨S256x1x121, .f32⟩
  | 100 => ⟨S256x121x121, .f32⟩
  | 101 => ⟨S256x121x121, .f32⟩
  | 102 => ⟨S_, .f32⟩
  | 103 => ⟨S256x121x121, .f32⟩
  | 104 => ⟨S256x121x121, .f32⟩
  | 105 => ⟨S256x121x121, .f32⟩
  | 106 => ⟨S256x121x9, .f32⟩
  | 107 => ⟨S256x121x9, .i32⟩
  | 108 => ⟨S256x121x8, .i32⟩
  | 109 => ⟨S256, .i32⟩
  | 110 => ⟨S256x1x1, .i32⟩
  | 111 => ⟨S121, .i32⟩
  | 112 => ⟨S1x121x1, .i32⟩
  | 113 => ⟨S_, .f32⟩
  | 114 => ⟨S256x121x121, .f32⟩
  | 115 => ⟨S_, .i32⟩
  | 116 => ⟨S256x1x1, .i32⟩
  | 117 => ⟨S256x1x1, .i1⟩
  | 118 => ⟨S_, .i32⟩
  | 119 => ⟨S256x1x1, .i32⟩
  | 120 => ⟨S256x1x1, .i32⟩
  | 121 => ⟨S256x1x1, .i32⟩
  | 122 => ⟨S_, .i32⟩
  | 123 => ⟨S1x121x1, .i32⟩
  | 124 => ⟨S1x121x1, .i1⟩
  | 125 => ⟨S_, .i32⟩
  | 126 => ⟨S1x121x1, .i32⟩
  | 127 => ⟨S1x121x1, .i32⟩
  | _ => ⟨S256x200x11x11, .f32⟩

abbrev hbmTy0_2 (i : Nat) : BufTy := match i % 128 with
  | 0 => ⟨S1x121x1, .i32⟩
  | 1 => ⟨S_, .i32⟩
  | 2 => ⟨S256x121x8, .i32⟩
  | 3 => ⟨S256x121x8, .i1⟩
  | 4 => ⟨S_, .i32⟩
  | 5 => ⟨S256x121x8, .i32⟩
  | 6 => ⟨S256x121x8, .i32⟩
  | 7 => ⟨S256x121x8, .i32⟩
  | 8 => ⟨S256x121x8, .i32⟩
  | 9 => ⟨S256x121x8, .i32⟩
  | 10 => ⟨S256x121x8x1, .i32⟩
  | 11 => ⟨S256x121x8x1, .i32⟩
  | 12 => ⟨S256x121x8x1, .i32⟩
  | 13 => ⟨S256x121x8x3, .i32⟩
  | 14 => ⟨S_, .f32⟩
  | 15 => ⟨S256x121x8, .f32⟩
  | 16 => ⟨S256x121x121, .f32⟩
  | 17 => ⟨S_, .f32⟩
  | 18 => ⟨S256x121, .f32⟩
  | 19 => ⟨S_, .f32⟩
  | 20 => ⟨S256x121, .f32⟩
  | 21 => ⟨S256x121, .f32⟩
  | 22 => ⟨S_, .f32⟩
  | 23 => ⟨S256x121, .f32⟩
  | 24 => ⟨S256x121, .f32⟩
  | 25 => ⟨S256x121x1, .f32⟩
  | 26 => ⟨S256x121x121, .f32⟩
  | 27 => ⟨S256x121x121, .f32⟩
  | 28 => ⟨S256x1x121, .f32⟩
  | 29 => ⟨S256x121x121, .f32⟩
  | 30 => ⟨S256x121x121, .f32⟩
  | 31 => ⟨S121x121, .i32⟩
  | 32 => ⟨S121x121, .i32⟩
  | 33 => ⟨S_, .i32⟩
  | 34 => ⟨S121x121, .i32⟩
  | 35 => ⟨S121x121, .i32⟩
  | 36 => ⟨S121x121, .i1⟩
  | 37 => ⟨S121x121, .f32⟩
  | 38 => ⟨S1x121x121, .f32⟩
  | 39 => ⟨S256x121x121, .f32⟩
  | 40 => ⟨S256x121x121, .f32⟩
  | 41 => ⟨S256x121x64, .f32⟩
  | 42 => ⟨S256x121x64, .f32⟩
  | 43 => ⟨S256x121x64, .f32⟩
  | 44 => ⟨S256x121x64, .f32⟩
  | 45 => ⟨S1x1x64, .f32⟩
  | 46 => ⟨S256x121x64, .f32⟩
  | 47 => ⟨S256x121x64, .f32⟩
  | 48 => ⟨S256x121x64, .f32⟩
  | 49 => ⟨S64x1, .f32⟩
  | 50 => ⟨S64, .f32⟩
  | 51 => ⟨S64x1, .f32⟩
  | 52 => ⟨S64, .f32⟩
  | 53 => ⟨S1x1x64, .f32⟩
  | 54 => ⟨S256x121x64, .f32⟩
  | 55 => ⟨S256x121x64, .f32⟩
  | 56 => ⟨S1x1x64, .f32⟩
  | 57 => ⟨S256x121x64, .f32⟩
  | 58 => ⟨S256x121x64, .f32⟩
  | 59 => ⟨S64x1, .f32⟩
  | 60 => ⟨S64, .f32⟩
  | 61 => ⟨S1x1x64, .f32⟩
  | 62 => ⟨S256x121x64, .f32⟩
  | 63 => ⟨S256x121x64, .f32⟩
  | 64 => ⟨S256x121x64, .f32⟩
  | 65 => ⟨S64x1, .f32⟩
  | 66 => ⟨S64, .f32⟩
  | 67 => ⟨S1x1x64, .f32⟩
  | 68 => ⟨S256x121x64, .f32⟩
  | 69 => ⟨S256x121x64, .f32⟩
  | 70 => ⟨S64x1, .f32⟩
  | 71 => ⟨S64, .f32⟩
  | 72 => ⟨S1x1x64, .f32⟩
  | 73 => ⟨S256x121x64, .f32⟩
  | 74 => ⟨S256x121x64, .f32⟩
  | 75 => ⟨S256x121x64, .f32⟩
  | 76 => ⟨S256x121x64, .f32⟩
  | 77 => ⟨S_, .f32⟩
  | 78 => ⟨S256x121x64, .f32⟩
  | 79 => ⟨S256x121x64, .f32⟩
  | 80 => ⟨S_, .f32⟩
  | 81 => ⟨S256x121x64, .f32⟩
  | 82 => ⟨S256x121x64, .f32⟩
  | 83 => ⟨S256x121x64, .f32⟩
  | 84 => ⟨S_, .f32⟩
  | 85 => ⟨S256x121x64, .f32⟩
  | 86 => ⟨S256x121x64, .f32⟩
  | 87 => ⟨S256x121x64x1, .f32⟩
  | 88 => ⟨S1x1x64x9, .f32⟩
  | 89 => ⟨S256x121x64x9, .f32⟩
  | 90 => ⟨S256x121x64x9, .f32⟩
  | 91 => ⟨S256x121x64x9, .f32⟩
  | 92 => ⟨S256x121x64x9, .f32⟩
  | 93 => ⟨S1x1x64x9, .f32⟩
  | 94 => ⟨S1x1x64x9, .f32⟩
  | 95 => ⟨S1x1x64x9, .f32⟩
  | 96 => ⟨S256x121x64x9, .f32⟩
  | 97 => ⟨S256x121x64x9, .f32⟩
  | 98 => ⟨S256x121x64x9, .f32⟩
  | 99 => ⟨S_, .f32⟩
  | 100 => ⟨S256x121x64x9, .f32⟩
  | 101 => ⟨S256x121x64x9, .f32⟩
  | 102 => ⟨S256x121x64x9, .f32⟩
  | 103 => ⟨S_, .f32⟩
  | 104 => ⟨S256x121x64, .f32⟩
  | 105 => ⟨S256x121x64x1, .f32⟩
  | 106 => ⟨S256x121x64x9, .f32⟩
  | 107 => ⟨S256x121x64x9, .f32⟩
  | 108 => ⟨S256x121x64x9, .f32⟩
  | 109 => ⟨S_, .f32⟩
  | 110 => ⟨S256x121x64, .f32⟩
  | 111 => ⟨S256x121x64, .f32⟩
  | 112 => ⟨S256x121x64, .f32⟩
  | 113 => ⟨S256x121x64, .f32⟩
  | 114 => ⟨S256x121x64, .f32⟩
  | 115 => ⟨S64x16, .f32⟩
  | 116 => ⟨S256x121x16, .f32⟩
  | 117 => ⟨S1x1x16, .f32⟩
  | 118 => ⟨S256x121x16, .f32⟩
  | 119 => ⟨S256x121x16, .f32⟩
  | 120 => ⟨S_, .f32⟩
  | 121 => ⟨S256x121x16, .f32⟩
  | 122 => ⟨S256x121x16, .f32⟩
  | 123 => ⟨S16x64, .f32⟩
  | 124 => ⟨S256x121x64, .f32⟩
  | 125 => ⟨S1x1x64, .f32⟩
  | 126 => ⟨S256x121x64, .f32⟩
  | 127 => ⟨S256x121x64, .f32⟩
  | _ => ⟨S256x200x11x11, .f32⟩

abbrev hbmTy0_3 (i : Nat) : BufTy := match i % 128 with
  | 0 => ⟨S256x121x64, .f32⟩
  | 1 => ⟨S256x121x64, .f32⟩
  | 2 => ⟨S_, .f32⟩
  | 3 => ⟨S256x121x64, .f32⟩
  | 4 => ⟨S256x121x64, .f32⟩
  | 5 => ⟨S_, .f32⟩
  | 6 => ⟨S256x121x64, .f32⟩
  | 7 => ⟨S256x121x64, .f32⟩
  | 8 => ⟨S256x121x64, .f32⟩
  | 9 => ⟨S256x121x64, .f32⟩
  | 10 => ⟨S_, .f32⟩
  | 11 => ⟨S256x121x64, .f32⟩
  | 12 => ⟨S256x121x64, .f32⟩
  | 13 => ⟨S_, .f32⟩
  | 14 => ⟨S256x64, .f32⟩
  | 15 => ⟨S_, .f32⟩
  | 16 => ⟨S256x64, .f32⟩
  | 17 => ⟨S256x64, .f32⟩
  | 18 => ⟨S_, .f32⟩
  | 19 => ⟨S256x64, .f32⟩
  | 20 => ⟨S256x64, .f32⟩
  | 21 => ⟨S64x128, .f32⟩
  | 22 => ⟨S256x128, .f32⟩
  | 23 => ⟨S1x128, .f32⟩
  | 24 => ⟨S256x128, .f32⟩
  | 25 => ⟨S256x128, .f32⟩
  | 26 => ⟨S_, .f32⟩
  | 27 => ⟨S256x128, .f32⟩
  | 28 => ⟨S256x128, .f32⟩
  | 29 => ⟨S_, .f32⟩
  | 30 => ⟨S256x128, .f32⟩
  | 31 => ⟨S256x128, .f32⟩
  | 32 => ⟨S128x16, .f32⟩
  | 33 => ⟨S256x16, .f32⟩
  | 34 => ⟨S1x16, .f32⟩
  | 35 => ⟨S256x16, .f32⟩
  | 36 => ⟨S256x16, .f32⟩
  | _ => ⟨S256x200x11x11, .f32⟩

abbrev hbmTy (i : Nat) : BufTy := match i / 128 with
  | 0 => hbmTy0_0 i
  | 1 => hbmTy0_1 i
  | 2 => hbmTy0_2 i
  | 3 => hbmTy0_3 i
  | _ => ⟨S256x200x11x11, .f32⟩

abbrev bufTy : (tb : Table) → Fin (tcTables nBuf tb) → BufTy
  | .hbm, ⟨i, _⟩ => hbmTy i
  | _, _ => ⟨S256x200x11x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_0 : Ref sig .tc := ⟨.hbm, 81, rfl⟩
abbrev main_v58 : Ref sig .tc := ⟨.hbm, 82, rfl⟩
abbrev main_v59 : Ref sig .tc := ⟨.hbm, 83, rfl⟩
abbrev main_cst_1 : Ref sig .tc := ⟨.hbm, 84, rfl⟩
abbrev main_v60 : Ref sig .tc := ⟨.hbm, 85, rfl⟩
abbrev main_v61 : Ref sig .tc := ⟨.hbm, 86, rfl⟩
abbrev main_cst_2 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_3 : Ref sig .tc := ⟨.hbm, 145, rfl⟩
abbrev main_v119 : Ref sig .tc := ⟨.hbm, 146, rfl⟩
abbrev main_v120 : Ref sig .tc := ⟨.hbm, 147, rfl⟩
abbrev main_cst_4 : Ref sig .tc := ⟨.hbm, 148, rfl⟩
abbrev main_v121 : Ref sig .tc := ⟨.hbm, 149, rfl⟩
abbrev main_v122 : Ref sig .tc := ⟨.hbm, 150, rfl⟩
abbrev main_cst_5 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_cst_6 : Ref sig .tc := ⟨.hbm, 209, rfl⟩
abbrev main_v180 : Ref sig .tc := ⟨.hbm, 210, rfl⟩
abbrev main_v181 : Ref sig .tc := ⟨.hbm, 211, rfl⟩
abbrev main_cst_7 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_cst_8 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_cst_9 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_cst_10 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_values : Ref sig .tc := ⟨.hbm, 234, rfl⟩
abbrev main_indices : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_cst_11 : Ref sig .tc := ⟨.hbm, 241, rfl⟩
abbrev main_v205 : Ref sig .tc := ⟨.hbm, 242, rfl⟩
abbrev main_c : Ref sig .tc := ⟨.hbm, 243, rfl⟩
abbrev main_v206 : Ref sig .tc := ⟨.hbm, 244, rfl⟩
abbrev main_v207 : Ref sig .tc := ⟨.hbm, 245, rfl⟩
abbrev main_c_12 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_c_13 : Ref sig .tc := ⟨.hbm, 250, rfl⟩
abbrev main_v211 : Ref sig .tc := ⟨.hbm, 251, rfl⟩
abbrev main_v212 : Ref sig .tc := ⟨.hbm, 252, rfl⟩
abbrev main_c_14 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_c_15 : Ref sig .tc := ⟨.hbm, 257, rfl⟩
abbrev main_v216 : Ref sig .tc := ⟨.hbm, 258, rfl⟩
abbrev main_v217 : Ref sig .tc := ⟨.hbm, 259, rfl⟩
abbrev main_c_16 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_cst_17 : Ref sig .tc := ⟨.hbm, 270, rfl⟩
abbrev main_v227 : Ref sig .tc := ⟨.hbm, 271, rfl⟩
abbrev main_v228 : Ref sig .tc := ⟨.hbm, 272, rfl⟩
abbrev main_cst_18 : Ref sig .tc := ⟨.hbm, 273, rfl⟩
abbrev main_v229 : Ref sig .tc := ⟨.hbm, 274, rfl⟩
abbrev main_cst_19 : Ref sig .tc := ⟨.hbm, 275, rfl⟩
abbrev main_v230 : Ref sig .tc := ⟨.hbm, 276, rfl⟩
abbrev main_v231 : Ref sig .tc := ⟨.hbm, 277, rfl⟩
abbrev main_cst_20 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_c_21 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_cst_22 : Ref sig .tc := ⟨.hbm, 333, rfl⟩
abbrev main_v285 : Ref sig .tc := ⟨.hbm, 334, rfl⟩
abbrev main_v286 : Ref sig .tc := ⟨.hbm, 335, rfl⟩
abbrev main_cst_23 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_cst_24 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_cst_25 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_cst_26 : Ref sig .tc := ⟨.hbm, 359, rfl⟩
abbrev main_v307 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_cst_27 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_call0_cst : Ref sig .tc := ⟨.hbm, 376, rfl⟩
abbrev main_call0_v0 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_cst_28 : Ref sig .tc := ⟨.hbm, 386, rfl⟩
abbrev main_v330 : Ref sig .tc := ⟨.hbm, 387, rfl⟩
abbrev main_v331 : Ref sig .tc := ⟨.hbm, 388, rfl⟩
abbrev main_cst_29 : Ref sig .tc := ⟨.hbm, 389, rfl⟩
abbrev main_v332 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_cst_30 : Ref sig .tc := ⟨.hbm, 394, rfl⟩
abbrev main_v336 : Ref sig .tc := ⟨.hbm, 395, rfl⟩
abbrev main_v337 : Ref sig .tc := ⟨.hbm, 396, rfl⟩
abbrev main_cst_31 : Ref sig .tc := ⟨.hbm, 397, rfl⟩
abbrev main_v338 : Ref sig .tc := ⟨.hbm, 398, rfl⟩
abbrev main_cst_32 : Ref sig .tc := ⟨.hbm, 399, rfl⟩
abbrev main_v339 : Ref sig .tc := ⟨.hbm, 400, rfl⟩
abbrev main_v340 : Ref sig .tc := ⟨.hbm, 401, rfl⟩
abbrev main_cst_33 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_cst_34 : Ref sig .tc := ⟨.hbm, 410, rfl⟩
abbrev main_v348 : Ref sig .tc := ⟨.hbm, 411, rfl⟩
abbrev main_v349 : Ref sig .tc := ⟨.hbm, 412, rfl⟩
abbrev main_call1_cst : Ref sig .tc := ⟨.hbm, 413, rfl⟩
abbrev main_call1_v0 : Ref sig .tc := ⟨.hbm, 414, rfl⟩
abbrev main_v350 : Ref sig .tc := ⟨.hbm, 415, rfl⟩
abbrev main_v351 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_v355 : Ref sig .tc := ⟨.hbm, 420, rfl⟩

abbrev nD : Nat := 1
abbrev τ : Topo := Topo.v7x

variable {F : FTy → Type} [FloatOps F]
-- ==== Proof.PreFacts.lean ====
/- The shape facts of the precondition. -/
module

public import proofs.«01_k».proof.Pre_distinct_neighbors

@[expose] public section

set_option maxRecDepth 16384

namespace Cert.Proof

open Idealize.ShloMosaic Cert.Pre_distinct_neighbors

/-- Every shape relation the precondition takes holds. -/
instance preFacts : Cert.Pre_distinct_neighbors.Facts where
  transposes_S256x200x11x11_S256x11x11x200_0_2_3_1 := by decide
  pads_S256x11x11x200_S256x13x13x200_000_110_110_000 := by decide
  h_S_ := by decide
  slices_S256x13x13x200_S256x11x11x200_0_0_0_0 := by decide
  slices_S32x200x3x3_S32x200x1x1_0_0_0_0 := by decide
  shapeCasts_S32x200x1x1_S32x200 := by decide
  transposes_S32x200_S200x32_1_0 := by decide
  slices_S256x13x13x200_S256x11x11x200_0_0_1_0 := by decide
  slices_S32x200x3x3_S32x200x1x1_0_0_0_1 := by decide
  slices_S256x13x13x200_S256x11x11x200_0_0_2_0 := by decide
  slices_S32x200x3x3_S32x200x1x1_0_0_0_2 := by decide
  slices_S256x13x13x200_S256x11x11x200_0_1_0_0 := by decide
  slices_S32x200x3x3_S32x200x1x1_0_0_1_0 := by decide
  slices_S256x13x13x200_S256x11x11x200_0_1_1_0 := by decide
  slices_S32x200x3x3_S32x200x1x1_0_0_1_1 := by decide
  slices_S256x13x13x200_S256x11x11x200_0_1_2_0 := by decide
  slices_S32x200x3x3_S32x200x1x1_0_0_1_2 := by decide
  slices_S256x13x13x200_S256x11x11x200_0_2_0_0 := by decide
  slices_S32x200x3x3_S32x200x1x1_0_0_2_0 := by decide
  slices_S256x13x13x200_S256x11x11x200_0_2_1_0 := by decide
  slices_S32x200x3x3_S32x200x1x1_0_0_2_1 := by decide
  slices_S256x13x13x200_S256x11x11x200_0_2_2_0 := by decide
  slices_S32x200x3x3_S32x200x1x1_0_0_2_2 := by decide
  bcast_S32_S1x1x1x32_3 := by decide
  bcast_S1x1x1x32_S256x11x11x32_0_1_2_3 := by decide
  bcast_S_S256x11x11x32 := by decide
  pads_S256x11x11x32_S256x13x13x32_000_110_110_000 := by decide
  slices_S256x13x13x32_S256x11x11x32_0_0_0_0 := by decide
  slices_S64x32x3x3_S64x32x1x1_0_0_0_0 := by decide
  shapeCasts_S64x32x1x1_S64x32 := by decide
  transposes_S64x32_S32x64_1_0 := by decide
  slices_S256x13x13x32_S256x11x11x32_0_0_1_0 := by decide
  slices_S64x32x3x3_S64x32x1x1_0_0_0_1 := by decide
  slices_S256x13x13x32_S256x11x11x32_0_0_2_0 := by decide
  slices_S64x32x3x3_S64x32x1x1_0_0_0_2 := by decide
  slices_S256x13x13x32_S256x11x11x32_0_1_0_0 := by decide
  slices_S64x32x3x3_S64x32x1x1_0_0_1_0 := by decide
  slices_S256x13x13x32_S256x11x11x32_0_1_1_0 := by decide
  slices_S64x32x3x3_S64x32x1x1_0_0_1_1 := by decide
  slices_S256x13x13x32_S256x11x11x32_0_1_2_0 := by decide
  slices_S64x32x3x3_S64x32x1x1_0_0_1_2 := by decide
  slices_S256x13x13x32_S256x11x11x32_0_2_0_0 := by decide
  slices_S64x32x3x3_S64x32x1x1_0_0_2_0 := by decide
  slices_S256x13x13x32_S256x11x11x32_0_2_1_0 := by decide
  slices_S64x32x3x3_S64x32x1x1_0_0_2_1 := by decide
  slices_S256x13x13x32_S256x11x11x32_0_2_2_0 := by decide
  slices_S64x32x3x3_S64x32x1x1_0_0_2_2 := by decide
  bcast_S64_S1x1x1x64_3 := by decide
  bcast_S1x1x1x64_S256x11x11x64_0_1_2_3 := by decide
  bcast_S_S256x11x11x64 := by decide
  pads_S256x11x11x64_S256x13x13x64_000_110_110_000 := by decide
  slices_S256x13x13x64_S256x11x11x64_0_0_0_0 := by decide
  slices_S64x64x3x3_S64x64x1x1_0_0_0_0 := by decide
  shapeCasts_S64x64x1x1_S64x64 := by decide
  transposes_S64x64_S64x64_1_0 := by decide
  slices_S256x13x13x64_S256x11x11x64_0_0_1_0 := by decide
  slices_S64x64x3x3_S64x64x1x1_0_0_0_1 := by decide
  slices_S256x13x13x64_S256x11x11x64_0_0_2_0 := by decide
  slices_S64x64x3x3_S64x64x1x1_0_0_0_2 := by decide
  slices_S256x13x13x64_S256x11x11x64_0_1_0_0 := by decide
  slices_S64x64x3x3_S64x64x1x1_0_0_1_0 := by decide
  slices_S256x13x13x64_S256x11x11x64_0_1_1_0 := by decide
  slices_S64x64x3x3_S64x64x1x1_0_0_1_1 := by decide
  slices_S256x13x13x64_S256x11x11x64_0_1_2_0 := by decide
  slices_S64x64x3x3_S64x64x1x1_0_0_1_2 := by decide
  slices_S256x13x13x64_S256x11x11x64_0_2_0_0 := by decide
  slices_S64x64x3x3_S64x64x1x1_0_0_2_0 := by decide
  slices_S256x13x13x64_S256x11x11x64_0_2_1_0 := by decide
  slices_S64x64x3x3_S64x64x1x1_0_0_2_1 := by decide
  slices_S256x13x13x64_S256x11x11x64_0_2_2_0 := by decide
  slices_S64x64x3x3_S64x64x1x1_0_0_2_2 := by decide
  shapeCasts_S256x11x11x64_S256x121x64 := by decide
  reducesTo_S256x121x64_S256x121_d2 := by decide
  bcast_S256x121_S256x121x1_0_1 := by decide
  transposes_S256x121x64_S256x64x121_0_2_1 := by decide
  bcast_S_S256x121x121 := by decide
  bcast_S256x121x1_S256x121x121_0_1_2 := by decide
  transposes_S256x121x1_S256x1x121_0_2_1 := by decide
  bcast_S256x1x121_S256x121x121_0_1_2 := by decide
  sliceFits_S256x121x121_S256x121x10 := by decide
  slices_S256x121x10_S256x121x9_0_0_1 := by decide
  slices_S256x121x10_S256x121x9_0_0_0 := by decide
  dot_S256x11x11x200_S200x32_S256x11x11x32_3_0_012_1_n_n_wf := by decide
  dot_S256x11x11x32_S32x64_S256x11x11x64_3_0_012_1_n_n_wf := by decide
  dot_S256x11x11x64_S64x64_S256x11x11x64_3_0_012_1_n_n_wf := by decide
  dot_S256x121x64_S256x64x121_S256x121x121_2_1_1_2_0_0_wf := by decide

end Cert.Proof

end
-- ==== Proof.Spec.lean ====
/- The mathematics of one sample over the extended reals, free of arrays and shapes: the three convolution layers, the
   distances between tokens, the graph layer, the radial sum, the attention and the pooling, and the head. Both programs are
   read to these functions. -/
module

public import Idealize.ShloMosaic.PureOps.Ideal

@[expose] public section

noncomputable section

open Idealize.ShloMosaic
open scoped BigOperators

namespace Cert.Spec

/-- What the normalisation divides by. -/
abbrev bn : EReal := Ideal.ofBits .f32 0x3F80002A#32

/-- A map of channels over the 11 by 11 positions. -/
abbrev Grid (K : ℕ) := Fin 11 → Fin 11 → Fin K → EReal

/-- The weights of a 3 by 3 convolution. -/
abbrev Taps (N K : ℕ) := Fin N → Fin K → Fin 3 → Fin 3 → EReal

/-- The map with a border of zeros one position wide. -/
def padAt {K : ℕ} (h : Grid K) (u v : ℕ) (k : Fin K) : EReal :=
  if hh : (1 ≤ u ∧ u < 12) ∧ (1 ≤ v ∧ v < 12) then h ⟨u - 1, by omega⟩ ⟨v - 1, by omega⟩ k else 0

/-- One of the nine products of a convolution. -/
def tap {K N : ℕ} (h : Grid K) (w : Taps N K) (y x : Fin 11) (n : Fin N) (dy dx : Fin 3) : EReal :=
  ∑ k, padAt h (y + dy) (x + dx) k * w n k dy dx

/-- The convolution: the nine products added row by row, then the bias. -/
def conv {K N : ℕ} (h : Grid K) (w : Taps N K) (b : Fin N → EReal) (y x : Fin 11) (n : Fin N) : EReal :=
  tap h w y x n 0 0 + tap h w y x n 0 1 + tap h w y x n 0 2 + tap h w y x n 1 0 + tap h w y x n 1 1
    + tap h w y x n 1 2 + tap h w y x n 2 0 + tap h w y x n 2 1 + tap h w y x n 2 2 + b n

/-- A convolution layer: normalised and cut off below zero. -/
def layer {K N : ℕ} (h : Grid K) (w : Taps N K) (b : Fin N → EReal) : Grid N :=
  fun y x n => max (Ideal.div (conv h w b y x n) bn) 0

/-- The map's positions in one row: token `p` is position `(p / 11, p % 11)`. -/
def flat {K : ℕ} (h : Grid K) (p : Fin 121) (k : Fin K) : EReal :=
  h ⟨p / 11, by omega⟩ ⟨p % 11, by omega⟩ k

/-- The squared distance between two tokens. -/
def dist (t : Fin 121 → Fin 64 → EReal) (i j : Fin 121) : EReal :=
  max ((∑ k, t i k * t i k) - Ideal.ofBits .f32 0x40000000#32 * (∑ k, t i k * t j k) + ∑ k, t j k * t j k) 0

/-- A token's channels under a 64 by 64 matrix. -/
def lin (t : Fin 121 → Fin 64 → EReal) (w : Fin 64 → Fin 64 → EReal) (i : Fin 121) (n : Fin 64) : EReal :=
  ∑ k, t i k * w k n

/-- What every normalised neighbour weighs: one over the degree. -/
abbrev invDegree : EReal := ((8796093022208 / 70368752973757 : ℝ) : EReal)

/-- Nine times the floor under each radial term. -/
abbrev nineEps : EReal := ((129703671 / 144115188075855872 : ℝ) : EReal)

/-- What token `i` gathers: its neighbours' sum over the degree, and itself. `nb` is the indicator of the neighbours. -/
def gather (nb : Fin 121 → Fin 121 → EReal) (tw : Fin 121 → Fin 64 → EReal) (i : Fin 121) (n : Fin 64) : EReal :=
  (∑ j, nb i j * tw j n) * invDegree + tw i n

/-- The graph layer before its activation. -/
def pre (t : Fin 121 → Fin 64 → EReal) (nb : Fin 121 → Fin 121 → EReal) (ws wn : Fin 64 → Fin 64 → EReal)
    (gb : Fin 64 → EReal) (i : Fin 121) (n : Fin 64) : EReal :=
  lin t ws i n + gather nb (lin t wn) i n + gb n

/-- The rational activation of one channel, normalised. -/
def act (ka : Fin 64 → Fin 3 → EReal) (kb : Fin 64 → Fin 2 → EReal) (n : Fin 64) (g : EReal) : EReal :=
  Ideal.div (Ideal.div (ka n 0 + ka n 1 * g + ka n 2 * (g * g))
    (1 + max (kb n 0 * g + kb n 1 * (g * g)) (-(kb n 0 * g + kb n 1 * (g * g))) + Ideal.ofBits .f32 0x322BCC77#32)) bn

/-- One radial term. -/
def bump (c γ g : EReal) : EReal := Ideal.exp (-(max γ (-γ)) * ((g - c) * (g - c)))

/-- The nine radial terms of a channel, and the floor under each. -/
def radial (ce ga : Fin 64 → Fin 9 → EReal) (n : Fin 64) (g : EReal) : EReal :=
  (∑ j, bump (ce n j) (ga n j) g) + nineEps

/-- The attention's hidden layer from a token's radial sums. -/
def hidden (w1 : Fin 16 → Fin 64 → EReal) (b1 : Fin 16 → EReal) (r : Fin 64 → EReal) (m : Fin 16) : EReal :=
  max ((∑ k, r k * w1 m k) + b1 m) 0

/-- The attention of a token, its channels weighed and normalised. -/
def attend (w1 : Fin 16 → Fin 64 → EReal) (b1 : Fin 16 → EReal) (w2 : Fin 64 → Fin 16 → EReal) (b2 : Fin 64 → EReal)
    (ce ga : Fin 64 → Fin 9 → EReal) (g : Fin 64 → EReal) (n : Fin 64) : EReal :=
  Ideal.div (g n * Ideal.logistic ((∑ m, hidden w1 b1 (fun k => radial ce ga k (g k)) m * w2 n m) + b2 n) + g n) bn

/-- The mean over the tokens and the greatest. -/
def pool (a : Fin 121 → Fin 64 → EReal) (n : Fin 64) : EReal :=
  Ideal.div (∑ p, a p n) (Ideal.ofBits .f32 0x42F20000#32) + Finset.univ.sup fun p => a p n

/-- The head's hidden layer. -/
def headHidden (w1 : Fin 128 → Fin 64 → EReal) (b1 : Fin 128 → EReal) (z : Fin 64 → EReal) (m : Fin 128) : EReal :=
  max (Ideal.div ((∑ k, z k * w1 m k) + b1 m) bn) 0

/-- The head. -/
def head (w1 : Fin 128 → Fin 64 → EReal) (b1 : Fin 128 → EReal) (w2 : Fin 16 → Fin 128 → EReal) (b2 : Fin 16 → EReal)
    (z : Fin 64 → EReal) (o : Fin 16) : EReal :=
  (∑ m, headHidden w1 b1 z m * w2 o m) + b2 o

/-- An image's tokens: three convolution layers, the positions in one row. -/
def tokens (x : Grid 200) (w1 : Taps 32 200) (b1 : Fin 32 → EReal) (w2 : Taps 64 32) (b2 : Fin 64 → EReal) (w3 : Taps 64 64)
    (b3 : Fin 64 → EReal) : Fin 121 → Fin 64 → EReal :=
  flat (layer (layer (layer x w1 b1) w2 b2) w3 b3)

/-- An image's pooled channels, from its tokens and their neighbours. -/
def pooled (t : Fin 121 → Fin 64 → EReal) (nb : Fin 121 → Fin 121 → EReal) (ws wn : Fin 64 → Fin 64 → EReal)
    (gb : Fin 64 → EReal) (ka : Fin 64 → Fin 3 → EReal) (kb : Fin 64 → Fin 2 → EReal) (ce ga : Fin 64 → Fin 9 → EReal)
    (w1 : Fin 16 → Fin 64 → EReal) (b1 : Fin 16 → EReal) (w2 : Fin 64 → Fin 16 → EReal) (b2 : Fin 64 → EReal) (n : Fin 64) :
    EReal :=
  pool (fun p => attend w1 b1 w2 b2 ce ga fun k => act ka kb k (pre t nb ws wn gb p k)) n

end Cert.Spec

end
-- ==== Proof.ConvLaw.lean ====
/- A map stored as one row of tokens with sixteen zeros before it: shifting the row by a tap's offset and masking the tokens
   whose neighbour lies over the left or the right edge reads the map with its border of zeros. So the nine shifted products,
   added column by column of the stencil, are the convolution. -/
module

public import proofs.«01_k».proof.Proof.Spec
public import Idealize.ShloMosaic.Lib.Pointwise

@[expose] public section

noncomputable section

open Idealize.ShloMosaic
open scoped BigOperators

namespace Cert.Spec

/-- The map in one row, its first token at place 16, zeros elsewhere. -/
def row {K : ℕ} (h : Grid K) (p : ℕ) (k : Fin K) : EReal :=
  if hp : 16 ≤ p ∧ p < 137 then flat h ⟨p - 16, by omega⟩ k else 0

/-- The row shifted by a tap's offset reads the bordered map, where the tap stays between the left and right edges. -/
theorem row_shift {K : ℕ} (h : Grid K) (q : Fin 121) (dy dx : Fin 3) (k : Fin K) (o : ℕ)
    (ho : o = 4 + 11 * dy.val + dx.val) (hx : 1 ≤ q.val % 11 + dx.val ∧ q.val % 11 + dx.val < 12) :
    row h (q + o) k = padAt h (q / 11 + dy) (q % 11 + dx) k := by
  subst ho
  have hq := q.isLt
  have e := Nat.div_add_mod q.val 11
  have hm := Nat.mod_lt q.val (show 0 < 11 by norm_num)
  have hd := dy.isLt
  unfold row padAt
  by_cases hc : 1 ≤ q.val / 11 + dy.val ∧ q.val / 11 + dy.val < 12
  · rw [dif_pos (show 16 ≤ q.val + (4 + 11 * dy.val + dx.val) ∧ q.val + (4 + 11 * dy.val + dx.val) < 137 by omega),
      dif_pos ⟨hc, hx⟩]
    unfold flat
    refine congrArg₂ (fun a b => h a b k) (Fin.ext ?_) (Fin.ext ?_)
    · show (q.val + (4 + 11 * dy.val + dx.val) - 16) / 11 = q.val / 11 + dy.val - 1; omega
    · show (q.val + (4 + 11 * dy.val + dx.val) - 16) % 11 = q.val % 11 + dx.val - 1; omega
  · rw [dif_neg (show ¬(16 ≤ q.val + (4 + 11 * dy.val + dx.val) ∧ q.val + (4 + 11 * dy.val + dx.val) < 137) by omega),
      dif_neg (fun hh => hc hh.1)]

/-- The bordered map is zero over the left and the right edge. -/
theorem padAt_out {K : ℕ} (h : Grid K) (u v : ℕ) (k : Fin K) (hv : ¬(1 ≤ v ∧ v < 12)) : padAt h u v k = 0 :=
  dif_neg fun hh => hv hh.2

/-- One product of the convolution on the shifted row. -/
def rowTap {K N : ℕ} (h : Grid K) (w : Taps N K) (p o : ℕ) (n : Fin N) (dy dx : Fin 3) : EReal :=
  ∑ k, row h (o + p) k * w n k dy dx

/-- A product of the shifted row is the convolution's, where the tap stays between the edges. -/
theorem rowTap_eq {K N : ℕ} (h : Grid K) (w : Taps N K) (q : Fin 121) (o : ℕ) (n : Fin N) (dy dx : Fin 3)
    (ho : o = 4 + 11 * dy.val + dx.val) (hx : 1 ≤ q.val % 11 + dx.val ∧ q.val % 11 + dx.val < 12) :
    rowTap h w q o n dy dx = tap h w ⟨q / 11, by omega⟩ ⟨q % 11, by omega⟩ n dy dx :=
  Finset.sum_congr rfl fun k _ => by rw [Nat.add_comm, row_shift h q dy dx k o ho hx]

/-- A product of the convolution is zero where the tap lies over the left or the right edge. -/
theorem tap_out {K N : ℕ} (h : Grid K) (w : Taps N K) (y x : Fin 11) (n : Fin N) (dy dx : Fin 3)
    (hx : ¬(1 ≤ x.val + dx.val ∧ x.val + dx.val < 12)) : tap h w y x n dy dx = 0 :=
  Finset.sum_eq_zero fun k _ => by rw [padAt_out h _ _ k hx, zero_mul]

/-- The nine products of the shifted row by column of the stencil, each column masked, are the convolution. -/
theorem rowConv {K N : ℕ} (h : Grid K) (w : Taps N K) (b : Fin N → EReal) (q : Fin 121) (n : Fin N) :
    (rowTap h w q 5 n 0 1 + rowTap h w q 16 n 1 1 + rowTap h w q 27 n 2 1)
      + (rowTap h w q 6 n 0 2 + rowTap h w q 17 n 1 2 + rowTap h w q 28 n 2 2) * (if q.val % 11 ≤ 9 then 1 else 0)
      + (rowTap h w q 4 n 0 0 + rowTap h w q 15 n 1 0 + rowTap h w q 26 n 2 0) * (if 1 ≤ q.val % 11 then 1 else 0)
      + b n
    = conv h w b ⟨q / 11, by omega⟩ ⟨q % 11, by omega⟩ n := by
  have hm := Nat.mod_lt q.val (show 0 < 11 by norm_num)
  have c1 : ∀ (o : ℕ) (dy : Fin 3), o = 4 + 11 * dy.val + (1 : Fin 3).val →
      rowTap h w q o n dy 1 = tap h w ⟨q / 11, by omega⟩ ⟨q % 11, by omega⟩ n dy 1 := fun o dy ho =>
    rowTap_eq h w q o n dy 1 ho ⟨by show 1 ≤ q.val % 11 + 1; omega, by show q.val % 11 + 1 < 12; omega⟩
  have g2 : (rowTap h w q 6 n 0 2 + rowTap h w q 17 n 1 2 + rowTap h w q 28 n 2 2) * (if q.val % 11 ≤ 9 then 1 else 0)
      = tap h w ⟨q / 11, by omega⟩ ⟨q % 11, by omega⟩ n 0 2 + tap h w ⟨q / 11, by omega⟩ ⟨q % 11, by omega⟩ n 1 2
        + tap h w ⟨q / 11, by omega⟩ ⟨q % 11, by omega⟩ n 2 2 := by
    by_cases hc : q.val % 11 ≤ 9
    · have c : ∀ (o : ℕ) (dy : Fin 3), o = 4 + 11 * dy.val + (2 : Fin 3).val →
          rowTap h w q o n dy 2 = tap h w ⟨q / 11, by omega⟩ ⟨q % 11, by omega⟩ n dy 2 := fun o dy ho =>
        rowTap_eq h w q o n dy 2 ho ⟨by show 1 ≤ q.val % 11 + 2; omega, by show q.val % 11 + 2 < 12; omega⟩
      rw [if_pos hc, mul_one, c 6 0 rfl, c 17 1 rfl, c 28 2 rfl]
    · have z : ∀ dy : Fin 3, tap h w ⟨q / 11, by omega⟩ ⟨q % 11, by omega⟩ n dy 2 = 0 := fun dy =>
        tap_out h w _ _ n dy 2 (by show ¬(1 ≤ q.val % 11 + 2 ∧ q.val % 11 + 2 < 12); omega)
      rw [if_neg hc, mul_zero, z, z, z, add_zero, add_zero]
  have g0 : (rowTap h w q 4 n 0 0 + rowTap h w q 15 n 1 0 + rowTap h w q 26 n 2 0) * (if 1 ≤ q.val % 11 then 1 else 0)
      = tap h w ⟨q / 11, by omega⟩ ⟨q % 11, by omega⟩ n 0 0 + tap h w ⟨q / 11, by omega⟩ ⟨q % 11, by omega⟩ n 1 0
        + tap h w ⟨q / 11, by omega⟩ ⟨q % 11, by omega⟩ n 2 0 := by
    by_cases hc : 1 ≤ q.val % 11
    · have c : ∀ (o : ℕ) (dy : Fin 3), o = 4 + 11 * dy.val + (0 : Fin 3).val →
          rowTap h w q o n dy 0 = tap h w ⟨q / 11, by omega⟩ ⟨q % 11, by omega⟩ n dy 0 := fun o dy ho =>
        rowTap_eq h w q o n dy 0 ho ⟨by show 1 ≤ q.val % 11 + 0; omega, by show q.val % 11 + 0 < 12; omega⟩
      rw [if_pos hc, mul_one, c 4 0 rfl, c 15 1 rfl, c 26 2 rfl]
    · have z : ∀ dy : Fin 3, tap h w ⟨q / 11, by omega⟩ ⟨q % 11, by omega⟩ n dy 0 = 0 := fun dy =>
        tap_out h w _ _ n dy 0 (by show ¬(1 ≤ q.val % 11 + 0 ∧ q.val % 11 + 0 < 12); omega)
      rw [if_neg hc, mul_zero, z, z, z, add_zero, add_zero]
  rw [g2, g0, c1 5 0 rfl, c1 16 1 rfl, c1 27 2 rfl]
  unfold conv
  ac_rfl

/-- Weights stored tap by tap. -/
def taps {K N : ℕ} (W : (⟨3, ![9, K, N]⟩ : Shape).Idx → EReal) : Taps N K :=
  fun n k dy dx => W (ix3 ⟨3 * dy + dx, by omega⟩ k n)

/-- The kernel's masked layer at place `q` of the 128: the layer's row, sixteen places on. -/
theorem masked_layer {K N : ℕ} (h : Grid K) (w : Taps N K) (b : Fin N → EReal) (q : ℕ) (hq : q < 128) (n : Fin N) :
    max (Ideal.div
        ((rowTap h w q 5 n 0 1 + rowTap h w q 16 n 1 1 + rowTap h w q 27 n 2 1) * (if q < 121 then 1 else 0)
          + (rowTap h w q 6 n 0 2 + rowTap h w q 17 n 1 2 + rowTap h w q 28 n 2 2) * (if q % 11 ≤ 9 ∧ q < 121 then 1 else 0)
          + (rowTap h w q 4 n 0 0 + rowTap h w q 15 n 1 0 + rowTap h w q 26 n 2 0) * (if 1 ≤ q % 11 ∧ q < 121 then 1 else 0)
          + b n) bn) 0 * (if q < 121 then 1 else 0)
      = row (layer h w b) (q + 16) n := by
  unfold row
  by_cases hl : q < 121
  · have e := rowConv h w b ⟨q, hl⟩ n
    simp only [hl, and_true, if_true, mul_one]
    rw [dif_pos (show 16 ≤ q + 16 ∧ q + 16 < 137 by omega)]
    rw [show (⟨q + 16 - 16, by omega⟩ : Fin 121) = ⟨q, hl⟩ from Fin.ext (Nat.add_sub_cancel q 16)]
    unfold flat layer
    exact congrArg (fun z => max (Ideal.div z bn) 0) e
  · rw [if_neg hl, mul_zero, dif_neg (show ¬(16 ≤ q + 16 ∧ q + 16 < 137) by omega)]

/-- The row's first sixteen places are zero. -/
theorem row_low {K : ℕ} (h : Grid K) (p : ℕ) (k : Fin K) (hp : p < 16) : row h p k = 0 := dif_neg (by omega)

/-- The row past the tokens is zero. -/
theorem row_high {K : ℕ} (h : Grid K) (p : ℕ) (k : Fin K) (hp : 137 ≤ p) : row h p k = 0 := dif_neg (by omega)

end Cert.Spec

end
-- ==== Proof.Words.lean ====
/- Index words: the printed remainder that wraps a negative one is the remainder, and a condition's bit as a number is one or
   zero. -/
module

public import Idealize.ShloMosaic.Lib.Pointwise
public import Idealize.ShloMosaic.Lib.WordCmp
public import Idealize.ShloMosaic.Lib.Routing.Words

@[expose] public section

noncomputable section

open Idealize.ShloMosaic

namespace Cert.Words

/-- A comparison's bit, widened and read as a number, is the condition's indicator. -/
theorem number (b : Bool) : (FloatOps.sitofp (F := Ideal) .f32 ((BitVec.ofBool b).setWidth 32) : Ideal .f32) = if b then (1 : EReal) else 0 := by
  cases b
  · show (((((BitVec.ofBool false).setWidth 32).toInt : ℤ) : ℝ) : EReal) = 0
    simp
  · show (((((BitVec.ofBool true).setWidth 32).toInt : ℤ) : ℝ) : EReal) = 1
    simp

/-- Both bits. -/
theorem both (a b : Bool) : IntOp.andi (BitVec.ofBool a) (BitVec.ofBool b) = BitVec.ofBool (a && b) := by
  cases a <;> cases b <;> rfl

/-- The printed divisor 128. -/
theorem div128 : Scalar.select (Scalar.cmpi .eq 128#32 0#32) 1#32 128#32 = 128#32 := rfl

/-- The printed divisor 11. -/
theorem div11 : Scalar.select (Scalar.cmpi .eq 11#32 0#32) 1#32 11#32 = 11#32 := rfl

/-- A remainder that is not negative stays as it is. -/
theorem keep128 (a : ℕ) (ha : a < 2 ^ 31) (z : BitVec 1) (x y : BitVec 32) :
    Scalar.select (IntOp.andi (IntOp.xori (IntOp.cmpi .slt (BitVec.ofNat 32 a) 0#32) (Scalar.cmpi .slt 128#32 0#32)) z) x y = y := by
  have h : IntOp.cmpi .slt (BitVec.ofNat 32 a) 0#32 = 0#1 := by
    rw [WordCmp.cmpi_slt_ofNat (b := 0) ha (by norm_num)]
    simp
  have h2 : Scalar.cmpi .slt 128#32 0#32 = 0#1 := rfl
  have h3 : IntOp.andi (IntOp.xori 0#1 0#1) z = 0#1 := by
    show (0#1 ^^^ 0#1) &&& z = 0#1
    simp
  rw [h, h2, h3]
  rfl

/-- The same under the divisor 11. -/
theorem keep11 (a : ℕ) (ha : a < 2 ^ 31) (z : BitVec 1) (x y : BitVec 32) :
    Scalar.select (IntOp.andi (IntOp.xori (IntOp.cmpi .slt (BitVec.ofNat 32 a) 0#32) (Scalar.cmpi .slt 11#32 0#32)) z) x y = y :=
  keep128 a ha z x y

/-- A choice on a bit is the choice on the truth it holds. -/
theorem pick (b : Bool) (x y : EReal) : Scalar.select (BitVec.ofBool b) x y = if b then x else y := by
  cases b <;> rfl

/-- The word of the positive infinity. -/
theorem infinity : Ideal.ofBits .f32 0x7F800000#32 = ⊤ := by
  simp [Ideal.ofBits, Ideal.ieee]

/-- The word of the negative infinity. -/
theorem minus_infinity : Ideal.ofBits .f32 0xFF800000#32 = ⊥ := by
  simp [Ideal.ofBits, Ideal.ieee]

end Cert.Words

end
-- ==== Proof.KConv1.lean ====
/- The kernel's first convolution layer: what the printed operations make of a block of images, as the row of the layer. -/
module

public import proofs.«01_k».proof.Proof.ConvLaw
public import proofs.«01_k».proof.Proof.Words
public import proofs.«01_k».proof.Proof.Gen.KernelIdeal.Skeleton
public import Idealize.ShloMosaic.Lib.Pointwise

@[expose] public section

set_option maxRecDepth 16384

noncomputable section

open Idealize.ShloMosaic Cert.KernelIdeal Cert.KernelIdeal.Gen

namespace Cert.Proof.K

/-- The place of row `r` of the 4096 within its image. -/
theorem lane1 (r : Fin 4096) : k0_pay12 (ix2 r 0) = BitVec.ofNat 32 (r.val % 128) := by
  pointwise [k0_pay12]
  have hr := r.isLt
  rw [Words.div128, Routing.remsi_word _ (by omega) (by norm_num) (by norm_num), Words.keep128 _ (by omega)]

/-- Whether row `r` holds a token. -/
theorem live1 (r : Fin 4096) : k0_pay13 (ix2 r 0) = BitVec.ofBool (decide (r.val % 128 < 121)) := by
  pointwise [k0_pay13]
  rw [lane1, WordCmp.cmpi_slt_ofNat (by omega) (by norm_num)]

/-- The column of row `r`'s token. -/
theorem col1 (r : Fin 4096) : k0_pay14 (ix2 r 0) = BitVec.ofNat 32 (r.val % 128 % 11) := by
  pointwise [k0_pay14]
  rw [lane1, Words.div11, Routing.remsi_word _ (by omega) (by norm_num) (by norm_num)]

/-- An image of the block, position by position. -/
def image (x : FVec Ideal S32x200x121 .f32) (s : Fin 32) : Spec.Grid 200 :=
  fun y c k => x (ix3 s k ⟨11 * y + c, by omega⟩)

/-- The padded block is the images' rows. -/
theorem pad1 (x : FVec Ideal S32x200x121 .f32) (s : Fin 32) (p : Fin 160) (k : Fin 200) :
    k0_pay2 (F := Ideal) x (ix3 s p k) = Spec.row (image x s) p k := by
  pointwise [k0_pay2]
  by_cases h1 : p.val < 137
  · rw [dif_pos h1]
    by_cases h2 : p.val < 16
    · rw [dif_pos h2, Spec.row_low _ _ _ h2]
      simp
    · rw [dif_neg h2]
      unfold Spec.row
      rw [dif_pos ⟨not_lt.mp h2, h1⟩]
      unfold Spec.flat image
      refine congrArg (fun j => x (ix3 s k j)) (Fin.ext ?_)
      show p.val - 16 = 11 * ((p.val - 16) / 11) + (p.val - 16) % 11
      omega
  · rw [dif_neg h1, Spec.row_high _ _ _ (not_lt.mp h1)]
    simp

/-- The three products of the stencil's left column. -/
theorem left1 (x : FVec Ideal S32x200x121 .f32) (W : FVec Ideal S9x200x32 .f32) (s : Fin 32) (q : Fin 128) (n : Fin 32) :
    k0_pay9 (F := Ideal) (k0_pay2 x) (k0_pay3 W) (k0_pay6 x W) (ix2 ⟨s * 128 + q, by omega⟩ n)
      = Spec.rowTap (image x s) (Spec.taps W) q 4 n 0 0 + Spec.rowTap (image x s) (Spec.taps W) q 15 n 1 0
        + Spec.rowTap (image x s) (Spec.taps W) q 26 n 2 0 := by
  pointwise [k0_pay9, k0_pay3, k0_pay6]
  simp only [pad1]
  rfl

/-- The three products of the middle column. -/
theorem mid1 (x : FVec Ideal S32x200x121 .f32) (W : FVec Ideal S9x200x32 .f32) (s : Fin 32) (q : Fin 128) (n : Fin 32) :
    k0_pay10 (F := Ideal) (k0_pay2 x) (k0_pay3 W) (k0_pay7 x W) (ix2 ⟨s * 128 + q, by omega⟩ n)
      = Spec.rowTap (image x s) (Spec.taps W) q 5 n 0 1 + Spec.rowTap (image x s) (Spec.taps W) q 16 n 1 1
        + Spec.rowTap (image x s) (Spec.taps W) q 27 n 2 1 := by
  pointwise [k0_pay10, k0_pay3, k0_pay7]
  simp only [pad1]
  rfl

/-- The three products of the right column. -/
theorem right1 (x : FVec Ideal S32x200x121 .f32) (W : FVec Ideal S9x200x32 .f32) (s : Fin 32) (q : Fin 128) (n : Fin 32) :
    k0_pay11 (F := Ideal) (k0_pay2 x) (k0_pay3 W) (k0_pay5 x W) (k0_pay8 x W) (ix2 ⟨s * 128 + q, by omega⟩ n)
      = Spec.rowTap (image x s) (Spec.taps W) q 6 n 0 2 + Spec.rowTap (image x s) (Spec.taps W) q 17 n 1 2
        + Spec.rowTap (image x s) (Spec.taps W) q 28 n 2 2 := by
  pointwise [k0_pay11, k0_pay3, k0_pay5, k0_pay8]
  simp only [pad1]
  rfl

/-- What the first layer leaves in its padded block. -/
abbrev out1 (x : FVec Ideal S32x200x121 .f32) (W : FVec Ideal S9x200x32 .f32) (b : FVec Ideal S1x32 .f32) :
    FVec Ideal S32x160x32 .f32 :=
  k0_pay17 (F := Ideal) (k0_pay4 b) (k0_pay9 (k0_pay2 x) (k0_pay3 W) (k0_pay6 x W))
    (k0_pay10 (k0_pay2 x) (k0_pay3 W) (k0_pay7 x W)) (k0_pay11 (k0_pay2 x) (k0_pay3 W) (k0_pay5 x W) (k0_pay8 x W))
    k0_pay13 (Scalar.select (Scalar.cmpi .eq 11#32 0#32) 1#32 11#32) k0_pay14 k0_pay15 k0_pay16

/-- The first layer's channels of an image. -/
def grid1 (x : FVec Ideal S32x200x121 .f32) (W : FVec Ideal S9x200x32 .f32) (b : FVec Ideal S1x32 .f32) (s : Fin 32) :
    Spec.Grid 32 :=
  Spec.layer (image x s) (Spec.taps W) (fun n => b (ix2 0 n))

/-- The masks and the padding around three column sums. -/
theorem shell1 (A B C : FVec Ideal S4096x32 .f32) (b : FVec Ideal S1x32 .f32) (s : Fin 32) (p : Fin 160) (n : Fin 32) :
    k0_pay17 (F := Ideal) (k0_pay4 b) A B C k0_pay13 (Scalar.select (Scalar.cmpi .eq 11#32 0#32) 1#32 11#32) k0_pay14
        k0_pay15 k0_pay16 (ix3 s p n)
      = if h : 16 ≤ p.val ∧ p.val < 144 then
          max (Ideal.div
            (B (ix2 ⟨s * 128 + (p - 16), by omega⟩ n) * (if p.val - 16 < 121 then 1 else 0)
              + C (ix2 ⟨s * 128 + (p - 16), by omega⟩ n) * (if (p.val - 16) % 11 ≤ 9 ∧ p.val - 16 < 121 then 1 else 0)
              + A (ix2 ⟨s * 128 + (p - 16), by omega⟩ n) * (if 1 ≤ (p.val - 16) % 11 ∧ p.val - 16 < 121 then 1 else 0)
              + b (ix2 0 n)) Spec.bn) 0 * (if p.val - 16 < 121 then 1 else 0)
        else 0 := by
  pointwise [k0_pay17, k0_pay4, k0_pay15, k0_pay16]
  simp only [live1, col1, Words.div11]
  simp (disch := omega) only [Words.keep11, WordCmp.cmpi_sle_ofNat, WordCmp.cmpi_sge_ofNat, Words.both, Words.number,
    decide_eq_true_eq, Bool.and_eq_true]
  by_cases h1 : p.val < 144
  · by_cases h2 : p.val < 16
    · rw [dif_pos h1, dif_pos h2, dif_neg (show ¬(16 ≤ p.val ∧ p.val < 144) by omega)]
      simp
    · have hm : (s.val * 128 + (p.val - 16)) % 128 = p.val - 16 := by omega
      rw [dif_pos h1, dif_neg h2, dif_pos (show 16 ≤ p.val ∧ p.val < 144 by omega)]
      simp only [hm]
  · rw [dif_neg h1, dif_neg (show ¬(16 ≤ p.val ∧ p.val < 144) by omega)]
    simp

/-- The first layer's padded block is the rows of the layer. -/
theorem conv1 (x : FVec Ideal S32x200x121 .f32) (W : FVec Ideal S9x200x32 .f32) (b : FVec Ideal S1x32 .f32) (s : Fin 32)
    (p : Fin 160) (n : Fin 32) : out1 x W b (ix3 s p n) = Spec.row (grid1 x W b s) p n := by
  unfold out1
  rw [shell1]
  by_cases h : 16 ≤ p.val ∧ p.val < 144
  · rw [dif_pos h]
    have l := left1 x W s ⟨p.val - 16, by omega⟩ n
    have m := mid1 x W s ⟨p.val - 16, by omega⟩ n
    have r := right1 x W s ⟨p.val - 16, by omega⟩ n
    dsimp only at l m r
    rw [l, m, r]
    have e := Spec.masked_layer (image x s) (Spec.taps W) (fun n => b (ix2 0 n)) (p.val - 16) (by omega) n
    rw [show p.val - 16 + 16 = p.val by omega] at e
    exact e
  · rw [dif_neg h]
    rcases Nat.lt_or_ge p.val 16 with h1 | h1
    · rw [Spec.row_low _ _ _ h1]
    · rw [Spec.row_high _ _ _ (by omega)]

end Cert.Proof.K

end
-- ==== Proof.KConv2.lean ====
/- The kernel's second convolution layer, from the rows of the first. -/
module

public import proofs.«01_k».proof.Proof.ConvLaw
public import proofs.«01_k».proof.Proof.Words
public import proofs.«01_k».proof.Proof.Gen.KernelIdeal.Skeleton
public import Idealize.ShloMosaic.Lib.Pointwise

@[expose] public section

set_option maxRecDepth 16384

noncomputable section

open Idealize.ShloMosaic Cert.KernelIdeal Cert.KernelIdeal.Gen

namespace Cert.Proof.K

/-- The place of row `r` of the 4096 within its image. -/
theorem lane2 (r : Fin 4096) : k0_pay23 (ix2 r 0) = BitVec.ofNat 32 (r.val % 128) := by
  pointwise [k0_pay23]
  have hr := r.isLt
  rw [Words.div128, Routing.remsi_word _ (by omega) (by norm_num) (by norm_num), Words.keep128 _ (by omega)]

/-- Whether row `r` holds a token. -/
theorem live2 (r : Fin 4096) : k0_pay24 (ix2 r 0) = BitVec.ofBool (decide (r.val % 128 < 121)) := by
  pointwise [k0_pay24]
  rw [lane2, WordCmp.cmpi_slt_ofNat (by omega) (by norm_num)]

/-- The column of row `r`'s token. -/
theorem col2 (r : Fin 4096) : k0_pay25 (ix2 r 0) = BitVec.ofNat 32 (r.val % 128 % 11) := by
  pointwise [k0_pay25]
  rw [lane2, Words.div11, Routing.remsi_word _ (by omega) (by norm_num) (by norm_num), Words.keep11 _ (by omega)]

variable (X : FVec Ideal S32x160x32 .f32) (W : FVec Ideal S9x32x64 .f32) (b : FVec Ideal S1x64 .f32)
  (h : Fin 32 → Spec.Grid 32)

/-- The three products of the stencil's left column. -/
theorem left2 (hX : ∀ (s : Fin 32) (p : Fin 160) (k : Fin 32), X (ix3 s p k) = Spec.row (h s) p k)
    (s : Fin 32) (q : Fin 128) (n : Fin 64) :
    k0_pay20 (F := Ideal) X (k0_pay18 W) (ix2 ⟨s * 128 + q, by omega⟩ n)
      = Spec.rowTap (h s) (Spec.taps W) q 4 n 0 0 + Spec.rowTap (h s) (Spec.taps W) q 15 n 1 0
        + Spec.rowTap (h s) (Spec.taps W) q 26 n 2 0 := by
  pointwise [k0_pay20, k0_pay18]
  simp only [hX]
  rfl

/-- The three products of the middle column. -/
theorem mid2 (hX : ∀ (s : Fin 32) (p : Fin 160) (k : Fin 32), X (ix3 s p k) = Spec.row (h s) p k)
    (s : Fin 32) (q : Fin 128) (n : Fin 64) :
    k0_pay21 (F := Ideal) X (k0_pay18 W) (ix2 ⟨s * 128 + q, by omega⟩ n)
      = Spec.rowTap (h s) (Spec.taps W) q 5 n 0 1 + Spec.rowTap (h s) (Spec.taps W) q 16 n 1 1
        + Spec.rowTap (h s) (Spec.taps W) q 27 n 2 1 := by
  pointwise [k0_pay21, k0_pay18]
  simp only [hX]
  rfl

/-- The three products of the right column. -/
theorem right2 (hX : ∀ (s : Fin 32) (p : Fin 160) (k : Fin 32), X (ix3 s p k) = Spec.row (h s) p k)
    (s : Fin 32) (q : Fin 128) (n : Fin 64) :
    k0_pay22 (F := Ideal) X (k0_pay18 W) (ix2 ⟨s * 128 + q, by omega⟩ n)
      = Spec.rowTap (h s) (Spec.taps W) q 6 n 0 2 + Spec.rowTap (h s) (Spec.taps W) q 17 n 1 2
        + Spec.rowTap (h s) (Spec.taps W) q 28 n 2 2 := by
  pointwise [k0_pay22, k0_pay18]
  simp only [hX]
  rfl

/-- What the second layer leaves in its padded block. -/
abbrev out2 : FVec Ideal S32x160x64 .f32 :=
  k0_pay28 (F := Ideal) (k0_pay19 b) (k0_pay20 X (k0_pay18 W)) k0_pay24 k0_pay25 (k0_pay26 (k0_pay21 X (k0_pay18 W)))
    (k0_pay27 (k0_pay22 X (k0_pay18 W)))

/-- The masks and the padding around three column sums. -/
theorem shell2 (A B C : FVec Ideal S4096x64 .f32) (s : Fin 32) (p : Fin 160) (n : Fin 64) :
    k0_pay28 (F := Ideal) (k0_pay19 b) A k0_pay24 k0_pay25 (k0_pay26 B) (k0_pay27 C) (ix3 s p n)
      = if h : 16 ≤ p.val ∧ p.val < 144 then
          max (Ideal.div
            (B (ix2 ⟨s * 128 + (p - 16), by omega⟩ n) * (if p.val - 16 < 121 then 1 else 0)
              + C (ix2 ⟨s * 128 + (p - 16), by omega⟩ n) * (if (p.val - 16) % 11 ≤ 9 ∧ p.val - 16 < 121 then 1 else 0)
              + A (ix2 ⟨s * 128 + (p - 16), by omega⟩ n) * (if 1 ≤ (p.val - 16) % 11 ∧ p.val - 16 < 121 then 1 else 0)
              + b (ix2 0 n)) Spec.bn) 0 * (if p.val - 16 < 121 then 1 else 0)
        else 0 := by
  pointwise [k0_pay28, k0_pay19, k0_pay26, k0_pay27]
  simp only [live2, col2]
  simp (disch := omega) only [WordCmp.cmpi_sle_ofNat, WordCmp.cmpi_sge_ofNat, Words.both, Words.number,
    decide_eq_true_eq, Bool.and_eq_true]
  by_cases h1 : p.val < 144
  · by_cases h2 : p.val < 16
    · rw [dif_pos h1, dif_pos h2, dif_neg (show ¬(16 ≤ p.val ∧ p.val < 144) by omega)]
      simp
    · have hm : (s.val * 128 + (p.val - 16)) % 128 = p.val - 16 := by omega
      rw [dif_pos h1, dif_neg h2, dif_pos (show 16 ≤ p.val ∧ p.val < 144 by omega)]
      simp only [hm]
  · rw [dif_neg h1, dif_neg (show ¬(16 ≤ p.val ∧ p.val < 144) by omega)]
    simp

/-- The second layer's padded block is the rows of the layer. -/
theorem conv2 (hX : ∀ (s : Fin 32) (p : Fin 160) (k : Fin 32), X (ix3 s p k) = Spec.row (h s) p k)
    (s : Fin 32) (p : Fin 160) (n : Fin 64) :
    out2 X W b (ix3 s p n) = Spec.row (Spec.layer (h s) (Spec.taps W) (fun n => b (ix2 0 n))) p n := by
  unfold out2
  rw [shell2]
  by_cases hp : 16 ≤ p.val ∧ p.val < 144
  · rw [dif_pos hp]
    have l := left2 X W h hX s ⟨p.val - 16, by omega⟩ n
    have m := mid2 X W h hX s ⟨p.val - 16, by omega⟩ n
    have r := right2 X W h hX s ⟨p.val - 16, by omega⟩ n
    dsimp only at l m r
    rw [l, m, r]
    have e := Spec.masked_layer (h s) (Spec.taps W) (fun n => b (ix2 0 n)) (p.val - 16) (by omega) n
    rw [show p.val - 16 + 16 = p.val by omega] at e
    exact e
  · rw [dif_neg hp]
    rcases Nat.lt_or_ge p.val 16 with h1 | h1
    · rw [Spec.row_low _ _ _ h1]
    · rw [Spec.row_high _ _ _ (by omega)]

end Cert.Proof.K

end
-- ==== Proof.KConv3.lean ====
/- The kernel's third convolution layer, from the rows of the second: the tokens. -/
module

public import proofs.«01_k».proof.Proof.ConvLaw
public import proofs.«01_k».proof.Proof.Words
public import proofs.«01_k».proof.Proof.Gen.KernelIdeal.Skeleton
public import Idealize.ShloMosaic.Lib.Pointwise

@[expose] public section

set_option maxRecDepth 16384

noncomputable section

open Idealize.ShloMosaic Cert.KernelIdeal Cert.KernelIdeal.Gen

namespace Cert.Proof.K

/-- The place of row `r` of the 4096 within its image. -/
theorem lane3 (r : Fin 4096) : k0_pay39 (ix2 r 0) = BitVec.ofNat 32 (r.val % 128) := by
  pointwise [k0_pay39]
  have hr := r.isLt
  rw [Words.div128, Routing.remsi_word _ (by omega) (by norm_num) (by norm_num)]

/-- The masks around three column sums. -/
theorem shell3 (A B C : FVec Ideal S4096x64 .f32) (b : FVec Ideal S1x64 .f32) (r : Fin 4096) (n : Fin 64) :
    k0_pay42 (F := Ideal) (k0_pay30 b) A B C k0_pay39 k0_pay40 k0_pay41 (ix2 r n)
      = max (Ideal.div
          (B (ix2 r n) * (if r.val % 128 < 121 then 1 else 0)
            + C (ix2 r n) * (if r.val % 128 % 11 ≤ 9 ∧ r.val % 128 < 121 then 1 else 0)
            + A (ix2 r n) * (if 1 ≤ r.val % 128 % 11 ∧ r.val % 128 < 121 then 1 else 0)
            + b (ix2 0 n)) Spec.bn) 0 * (if r.val % 128 < 121 then 1 else 0) := by
  pointwise [k0_pay42, k0_pay30, k0_pay40, k0_pay41]
  simp only [lane3, Words.div128, Words.div11]
  simp (disch := omega) only [Words.keep128]
  simp (disch := omega) only [Routing.remsi_word]
  simp (disch := omega) only [Words.keep11]
  simp (disch := omega) only [WordCmp.cmpi_slt_ofNat,
    WordCmp.cmpi_sle_ofNat, WordCmp.cmpi_sge_ofNat, Words.both, Words.number, decide_eq_true_eq, Bool.and_eq_true]

/-- What the third layer leaves, from the operands of the second layer's padding. -/
abbrev out3 (v137 : FVec Ideal S1x64 .f32) (v176 : FVec Ideal S4096x64 .f32) (v207 : IVec S4096x1 1) (v223 : IVec S4096x1 32)
    (v227 v234 : FVec Ideal S4096x64 .f32) (W : FVec Ideal S9x64x64 .f32) (b : FVec Ideal S1x64 .f32) :
    FVec Ideal S4096x64 .f32 :=
  k0_pay42 (F := Ideal) (k0_pay30 b)
    (k0_pay36 (k0_pay28 v137 v176 v207 v223 v227 v234) (k0_pay29 W) (k0_pay31 v137 v176 v207 v223 v227 v234 W)
      (k0_pay34 v137 v176 v207 v223 v227 v234) (k0_pay35 W))
    (k0_pay37 (k0_pay28 v137 v176 v207 v223 v227 v234) (k0_pay29 W) (k0_pay32 v137 v176 v207 v223 v227 v234 W))
    (k0_pay38 (k0_pay28 v137 v176 v207 v223 v227 v234) (k0_pay29 W) (k0_pay33 v137 v176 v207 v223 v227 v234 W))
    k0_pay39 k0_pay40 k0_pay41

variable (v137 : FVec Ideal S1x64 .f32) (v176 : FVec Ideal S4096x64 .f32) (v207 : IVec S4096x1 1) (v223 : IVec S4096x1 32)
  (v227 v234 : FVec Ideal S4096x64 .f32) (W : FVec Ideal S9x64x64 .f32) (b : FVec Ideal S1x64 .f32) (h : Fin 32 → Spec.Grid 64)

/-- The three products of the stencil's left column. -/
theorem left3 (hX : ∀ (s : Fin 32) (p : Fin 160) (k : Fin 64),
      k0_pay28 (F := Ideal) v137 v176 v207 v223 v227 v234 (ix3 s p k) = Spec.row (h s) p k)
    (s : Fin 32) (q : Fin 128) (n : Fin 64) :
    k0_pay36 (F := Ideal) (k0_pay28 v137 v176 v207 v223 v227 v234) (k0_pay29 W) (k0_pay31 v137 v176 v207 v223 v227 v234 W)
      (k0_pay34 v137 v176 v207 v223 v227 v234) (k0_pay35 W) (ix2 ⟨s * 128 + q, by omega⟩ n)
      = Spec.rowTap (h s) (Spec.taps W) q 4 n 0 0 + Spec.rowTap (h s) (Spec.taps W) q 15 n 1 0
        + Spec.rowTap (h s) (Spec.taps W) q 26 n 2 0 := by
  pointwise [k0_pay36, k0_pay29, k0_pay31, k0_pay34, k0_pay35]
  simp only [hX]
  rfl

/-- The three products of the middle column. -/
theorem mid3 (hX : ∀ (s : Fin 32) (p : Fin 160) (k : Fin 64),
      k0_pay28 (F := Ideal) v137 v176 v207 v223 v227 v234 (ix3 s p k) = Spec.row (h s) p k)
    (s : Fin 32) (q : Fin 128) (n : Fin 64) :
    k0_pay37 (F := Ideal) (k0_pay28 v137 v176 v207 v223 v227 v234) (k0_pay29 W) (k0_pay32 v137 v176 v207 v223 v227 v234 W)
      (ix2 ⟨s * 128 + q, by omega⟩ n)
      = Spec.rowTap (h s) (Spec.taps W) q 5 n 0 1 + Spec.rowTap (h s) (Spec.taps W) q 16 n 1 1
        + Spec.rowTap (h s) (Spec.taps W) q 27 n 2 1 := by
  pointwise [k0_pay37, k0_pay29, k0_pay32]
  simp only [hX]
  rfl

/-- The three products of the right column. -/
theorem right3 (hX : ∀ (s : Fin 32) (p : Fin 160) (k : Fin 64),
      k0_pay28 (F := Ideal) v137 v176 v207 v223 v227 v234 (ix3 s p k) = Spec.row (h s) p k)
    (s : Fin 32) (q : Fin 128) (n : Fin 64) :
    k0_pay38 (F := Ideal) (k0_pay28 v137 v176 v207 v223 v227 v234) (k0_pay29 W) (k0_pay33 v137 v176 v207 v223 v227 v234 W)
      (ix2 ⟨s * 128 + q, by omega⟩ n)
      = Spec.rowTap (h s) (Spec.taps W) q 6 n 0 2 + Spec.rowTap (h s) (Spec.taps W) q 17 n 1 2
        + Spec.rowTap (h s) (Spec.taps W) q 28 n 2 2 := by
  pointwise [k0_pay38, k0_pay29, k0_pay33]
  simp only [hX]
  rfl

/-- A token's place among the 4096 rows. -/
def tokenRow (s : Fin 32) (p : Fin 128) : Fin 4096 := ⟨s * 128 + p, by omega⟩

/-- The third layer's channels, token by token, zero past the tokens. -/
theorem conv3 (hX : ∀ (s : Fin 32) (p : Fin 160) (k : Fin 64),
      k0_pay28 (F := Ideal) v137 v176 v207 v223 v227 v234 (ix3 s p k) = Spec.row (h s) p k)
    (s : Fin 32) (q : Fin 128) (n : Fin 64) :
    out3 v137 v176 v207 v223 v227 v234 W b (ix2 (tokenRow s q) n)
      = Spec.row (Spec.layer (h s) (Spec.taps W) (fun n => b (ix2 0 n))) (q + 16) n := by
  unfold out3 tokenRow
  rw [shell3, left3 v137 v176 v207 v223 v227 v234 W h hX, mid3 v137 v176 v207 v223 v227 v234 W h hX,
    right3 v137 v176 v207 v223 v227 v234 W h hX]
  have hm : (s.val * 128 + q.val) % 128 = q.val := by omega
  simp only [hm]
  exact Spec.masked_layer (h s) (Spec.taps W) (fun n => b (ix2 0 n)) q.val q.isLt n

end Cert.Proof.K

end
-- ==== Proof.NeighbourLaw.lean ====
/- Nine rounds of taking the least distance of a row away, and the order of the row's ten least: where the first ten are
   strictly apart, round `t` takes away the token of rank `t` and no other. -/
module

public import proofs.«01_k».proof.Proof.Spec

@[expose] public section

noncomputable section

open Idealize.ShloMosaic
open scoped BigOperators

namespace Cert.Spec

/-- `e` lists nine tokens of a row by strictly rising distance, every other token farther than all of them. -/
structure Ranked (d : Fin 121 → EReal) (e : Fin 9 → Fin 121) : Prop where
  rise : ∀ s t, s < t → d (e s) < d (e t)
  rest : ∀ j, (∀ t, e t ≠ j) → ∀ t, d (e t) < d j

/-- The least entry of a row of 128. -/
def low (v : Fin 128 → EReal) : EReal := Finset.univ.fold min ⊤ v

/-- The row with its least entry taken away. -/
def strike (v : Fin 128 → EReal) (j : Fin 128) : EReal := if v j = low v then ⊤ else v j

/-- The row of distances, the seven places past the tokens infinitely far. -/
def wide (d : Fin 121 → EReal) (j : Fin 128) : EReal := if h : j.val < 121 then d ⟨j, h⟩ else ⊤

/-- The row after `t` rounds. -/
def after (d : Fin 121 → EReal) : ℕ → Fin 128 → EReal
  | 0 => wide d
  | t + 1 => strike (after d t)

namespace Ranked

variable {d : Fin 121 → EReal} {e : Fin 9 → Fin 121}

/-- The nine tokens are different. -/
theorem inj (h : Ranked d e) {s t : Fin 9} (hst : e s = e t) : s = t := by
  rcases lt_trichotomy s t with l | l | l
  · exact absurd (h.rise s t l) (by rw [hst]; exact lt_irrefl _)
  · exact l
  · exact absurd (h.rise t s l) (by rw [hst]; exact lt_irrefl _)

/-- Each of the nine distances is finite above. -/
theorem lt_top (h : Ranked d e) (t : Fin 9) : d (e t) < ⊤ := by
  have hex : ∃ j, ∀ s, e s ≠ j := by
    by_contra hc
    have hs : Function.Surjective e := fun j => by
      by_contra hj
      exact hc ⟨j, fun s hs => hj ⟨s, hs⟩⟩
    have := Fintype.card_le_of_surjective e hs
    simp at this
  obtain ⟨j, hj⟩ := hex
  exact lt_of_lt_of_le (h.rest j hj t) le_top

/-- The row with the first `n` of the nine tokens struck. -/
def left (d : Fin 121 → EReal) (e : Fin 9 → Fin 121) (n : ℕ) (j : Fin 128) : EReal :=
  if ∃ s : Fin 9, s.val < n ∧ (e s).val = j.val then ⊤ else wide d j

/-- Of the row with the first `t` struck, every entry is at least the distance of rank `t`, and equal only at that token. -/
theorem left_ge (h : Ranked d e) (t : Fin 9) (j : Fin 128) :
    d (e t) ≤ left d e t j ∧ (left d e t j = d (e t) ↔ j.val = (e t).val) := by
  have ht := h.lt_top t
  unfold left
  by_cases hs : ∃ s : Fin 9, s.val < t.val ∧ (e s).val = j.val
  · rw [if_pos hs]
    obtain ⟨s, hst, hsj⟩ := hs
    refine ⟨le_top, ⟨fun hh => absurd hh ht.ne', fun hh => ?_⟩⟩
    have : s = t := h.inj (Fin.ext (hsj.trans hh))
    exact absurd hst (by rw [this]; exact lt_irrefl _)
  · rw [if_neg hs]
    unfold wide
    by_cases hj : j.val < 121
    · rw [dif_pos hj]
      by_cases hm : ∃ s : Fin 9, e s = ⟨j.val, hj⟩
      · obtain ⟨s, hsj⟩ := hm
        rw [← hsj]
        have hst : t ≤ s := not_lt.mp fun hlt => hs ⟨s, hlt, by rw [hsj]⟩
        have hv : j.val = (e s).val := by rw [hsj]
        rcases hst.lt_or_eq with hlt | heq
        · have r := h.rise t s hlt
          refine ⟨r.le, ⟨fun hh => absurd hh r.ne', fun hh => ?_⟩⟩
          exact absurd (h.inj (Fin.ext (hv.symm.trans hh))) hlt.ne'
        · subst heq
          exact ⟨le_refl _, ⟨fun _ => hv, fun _ => rfl⟩⟩
      · have r := h.rest ⟨j.val, hj⟩ (fun s hs => hm ⟨s, hs⟩) t
        exact ⟨r.le, ⟨fun hh => absurd hh r.ne', fun hh => absurd ⟨t, Fin.ext hh.symm⟩ hm⟩⟩
    · rw [dif_neg hj]
      exact ⟨le_top, ⟨fun hh => absurd hh ht.ne', fun hh => absurd (hh ▸ (e t).isLt) hj⟩⟩

/-- The place of a token in the row of 128. -/
def at128 (i : Fin 121) : Fin 128 := ⟨i.val, by omega⟩

/-- The least entry with the first `t` struck is the distance of rank `t`. -/
theorem low_left (h : Ranked d e) (t : Fin 9) : low (left d e t) = d (e t) := by
  unfold low
  apply le_antisymm
  · rw [← ((h.left_ge t (at128 (e t))).2).mpr rfl]
    exact Finset.fold_min_le _ |>.mpr (Or.inr ⟨at128 (e t), Finset.mem_univ _, le_refl _⟩)
  · exact Finset.le_fold_min _ |>.mpr ⟨le_top, fun j _ => (h.left_ge t j).1⟩

/-- A round strikes the token of rank `t`. -/
theorem strike_left (h : Ranked d e) (t : Fin 9) : strike (left d e t) = left d e (t.val + 1) := by
  funext j
  unfold strike
  rw [h.low_left t]
  by_cases hj : left d e t j = d (e t)
  · rw [if_pos hj]
    have hv := ((h.left_ge t j).2).mp hj
    unfold left
    rw [if_pos ⟨t, Nat.lt_succ_self _, hv.symm⟩]
  · rw [if_neg hj]
    have hv : ¬j.val = (e t).val := fun hh => hj (((h.left_ge t j).2).mpr hh)
    unfold left
    have hiff : (∃ s : Fin 9, s.val < t.val ∧ (e s).val = j.val) ↔ ∃ s : Fin 9, s.val < t.val + 1 ∧ (e s).val = j.val := by
      constructor
      · rintro ⟨s, hs, hsj⟩; exact ⟨s, Nat.lt_succ_of_lt hs, hsj⟩
      · rintro ⟨s, hs, hsj⟩
        rcases Nat.lt_succ_iff_lt_or_eq.mp hs with hlt | heq
        · exact ⟨s, hlt, hsj⟩
        · exact absurd (by rw [← Fin.ext heq, hsj]) hv
    simp only [hiff]

/-- After `t` rounds the first `t` are struck. -/
theorem after_eq (h : Ranked d e) (t : ℕ) (ht : t ≤ 9) : after d t = left d e t := by
  induction t with
  | zero =>
    funext j
    unfold after left
    rw [if_neg (by rintro ⟨s, hs, _⟩; exact absurd hs (Nat.not_lt_zero _))]
  | succ t ih =>
    show strike (after d t) = _
    rw [ih (by omega)]
    exact h.strike_left ⟨t, by omega⟩

/-- In round `t` the least entry is met at the token of rank `t` and nowhere else. -/
theorem hit_iff (h : Ranked d e) (t : Fin 9) (j : Fin 128) :
    after d t j = low (after d t) ↔ j.val = (e t).val := by
  rw [h.after_eq t (by omega), h.low_left t]
  exact (h.left_ge t j).2

end Ranked

/-- The indicator of a round's token. -/
def hit (d : Fin 121 → EReal) (t : ℕ) (j : Fin 128) : EReal := if after d t j = low (after d t) then 1 else 0

/-- The indicator of the eight nearest tokens after the first. -/
def near (e : Fin 9 → Fin 121) (j : Fin 128) : EReal := if ∃ s : Fin 8, (e s.succ).val = j.val then 1 else 0

/-- The eight rounds' indicators add up to the indicator of the eight tokens. -/
theorem hits_eq {d : Fin 121 → EReal} {e : Fin 9 → Fin 121} (h : Ranked d e) (j : Fin 128) :
    0 + hit d 1 j + hit d 2 j + hit d 3 j + hit d 4 j + hit d 5 j + hit d 6 j + hit d 7 j + hit d 8 j = near e j := by
  have hh : ∀ t : Fin 9, hit d t j = if j.val = (e t).val then 1 else 0 := fun t => by
    unfold hit; simp only [h.hit_iff t j]
  have hs : 0 + hit d 1 j + hit d 2 j + hit d 3 j + hit d 4 j + hit d 5 j + hit d 6 j + hit d 7 j + hit d 8 j
      = ∑ s : Fin 8, if j.val = (e s.succ).val then (1 : EReal) else 0 := by
    rw [Fin.sum_univ_eight, zero_add]
    exact congrArg₂ (· + ·) (congrArg₂ (· + ·) (congrArg₂ (· + ·) (congrArg₂ (· + ·) (congrArg₂ (· + ·)
      (congrArg₂ (· + ·) (congrArg₂ (· + ·) (hh 1) (hh 2)) (hh 3)) (hh 4)) (hh 5)) (hh 6)) (hh 7)) (hh 8)
  rw [hs]
  unfold near
  by_cases hc : ∃ s : Fin 8, (e s.succ).val = j.val
  · rw [if_pos hc]
    obtain ⟨s, hsj⟩ := hc
    rw [Finset.sum_eq_single s]
    · rw [if_pos hsj.symm]
    · intro s' _ hne
      rw [if_neg]
      intro hv
      exact hne (Fin.succ_injective 8 (h.inj (Fin.ext (hv.symm.trans hsj.symm))))
    · intro hn; exact absurd (Finset.mem_univ _) hn
  · rw [if_neg hc]
    exact Finset.sum_eq_zero fun s _ => if_neg fun hv => hc ⟨s, hv.symm⟩

/-- The eight tokens are eight: the indicator adds up to eight over the tokens. -/
theorem near_sum {d : Fin 121 → EReal} {e : Fin 9 → Fin 121} (h : Ranked d e) :
    ∑ j : Fin 121, near e (Ranked.at128 j) = 8 := by
  have h1 : ∀ j : Fin 121, near e (Ranked.at128 j)
      = if j ∈ (Finset.univ.image fun s : Fin 8 => e s.succ) then (1 : EReal) else 0 := fun j => by
    unfold near
    refine if_congr ?_ rfl rfl
    simp only [Finset.mem_image, Finset.mem_univ, true_and]
    exact exists_congr fun s => ⟨fun hv => Fin.ext hv, fun hv => congrArg Fin.val hv⟩
  rw [Finset.sum_congr rfl fun j _ => h1 j, Finset.sum_ite_mem, Finset.univ_inter, Finset.sum_const,
    Finset.card_image_of_injective _ fun s s' hv => Fin.succ_injective 8 (h.inj hv)]
  simp

end Cert.Spec

end
-- ==== Proof.KRounds.lean ====
/- The rounds of the kernel: its distances, the least of each row struck round by round, and the sum of what was struck. -/
module

public import proofs.«01_k».proof.Proof.NeighbourLaw
public import proofs.«01_k».proof.Proof.Words
public import proofs.«01_k».proof.Proof.KConv3
public import proofs.«01_k».proof.Proof.Gen.KernelIdeal.Skeleton
public import Idealize.ShloMosaic.Lib.Pointwise

@[expose] public section

set_option maxRecDepth 16384

noncomputable section

open Idealize.ShloMosaic Cert.KernelIdeal Cert.KernelIdeal.Gen

namespace Cert.Proof.K

/-- The kernel's row of distances from token `i`, the places past the tokens infinitely far. -/
def distRow (v : FVec Ideal S4096x64 .f32) (s : Fin 32) (i j : Fin 128) : EReal :=
  if 121 ≤ j.val then ⊤ else
    max 0 ((∑ k, v (ix2 (tokenRow s i) k) * v (ix2 (tokenRow s i) k))
      - Ideal.ofBits .f32 0x40000000#32 * (∑ k, v (ix2 (tokenRow s i) k) * v (ix2 (tokenRow s j) k))
      + ∑ k, v (ix2 (tokenRow s j) k) * v (ix2 (tokenRow s j) k))

/-- The first round strikes the row of distances. -/
theorem round0 (v : FVec Ideal S4096x64 .f32) (s : Fin 32) (i j : Fin 128) :
    k0_pay43 (F := Ideal) v (ix3 s i j) = Spec.strike (distRow v s i) j := by
  pointwise [k0_pay43]
  simp (disch := omega) only [WordCmp.cmpi_sge_ofNat, Words.pick, Words.infinity, decide_eq_true_eq]
  rfl

/-- Where the tokens are known, the row of distances is the tokens' distances. -/
theorem distRow_eq (v : FVec Ideal S4096x64 .f32) (s : Fin 32) (t : Fin 121 → Fin 64 → EReal)
    (hv : ∀ (p : Fin 121) (k : Fin 64), v (ix2 (tokenRow s (Spec.Ranked.at128 p)) k) = t p k) (i : Fin 121) :
    distRow v s (Spec.Ranked.at128 i) = Spec.wide (Spec.dist t i) := by
  funext j
  unfold distRow Spec.wide Spec.dist
  by_cases hj : j.val < 121
  · have hj' : ∀ k, v (ix2 (tokenRow s j) k) = t ⟨j.val, hj⟩ k := fun k => hv ⟨j.val, hj⟩ k
    rw [if_neg (not_le.mpr hj), dif_pos hj]
    simp only [hv, hj']
    rw [max_comm]
  · rw [if_pos (not_lt.mp hj), dif_neg hj]

section

variable {V : FVec Ideal S32x128x128 .f32} {s : Fin 32} {i : Fin 128} {d : Fin 121 → EReal}
variable {v : FVec Ideal S4096x64 .f32}

/-- The row after the first strike. -/
theorem row1 (h : distRow v s i = Spec.wide d) (j : Fin 128) : k0_pay43 (F := Ideal) v (ix3 s i j) = Spec.after d 1 j := by
  rw [round0, h]
  rfl

/-- The bits of round 1. -/
theorem bit1 (h : distRow v s i = Spec.wide d) (j : Fin 128) :
    k0_pay44 (F := Ideal) v (ix3 s i j) = BitVec.ofBool (decide (Spec.after d 1 j = Spec.low (Spec.after d 1))) := by
  pointwise [k0_pay44]
  simp only [row1 h, Words.infinity]
  rfl

/-- The row after round 1. -/
theorem row2 (h : distRow v s i = Spec.wide d) (j : Fin 128) :
    k0_pay45 (F := Ideal) v (ix3 s i j) = Spec.after d 2 j := by
  pointwise [k0_pay45]
  simp only [bit1 h, row1 h, Words.pick, Words.infinity, decide_eq_true_eq]
  rfl

/-- The bits of round 2. -/
theorem bit2 (h : distRow v s i = Spec.wide d) (j : Fin 128) :
    k0_pay46 (F := Ideal) v (ix3 s i j) = BitVec.ofBool (decide (Spec.after d 2 j = Spec.low (Spec.after d 2))) := by
  pointwise [k0_pay46]
  simp only [row2 h, Words.infinity]
  rfl

/-- The row after round 2. -/
theorem row3 (h : distRow v s i = Spec.wide d) (j : Fin 128) :
    k0_pay48 (F := Ideal) v (ix3 s i j) = Spec.after d 3 j := by
  pointwise [k0_pay48]
  simp only [bit2 h, row2 h, Words.pick, Words.infinity, decide_eq_true_eq]
  rfl

/-- The bits of round 3. -/
theorem bit3 (h : ∀ j, V (ix3 s i j) = Spec.after d 3 j) (j : Fin 128) :
    k0_pay49 (F := Ideal) V (ix3 s i j) = BitVec.ofBool (decide (Spec.after d 3 j = Spec.low (Spec.after d 3))) := by
  pointwise [k0_pay49]
  simp only [h, Words.infinity]
  rfl

/-- The row after round 3. -/
theorem row4 (h : ∀ j, V (ix3 s i j) = Spec.after d 3 j) (j : Fin 128) :
    k0_pay50 (F := Ideal) V (ix3 s i j) = Spec.after d 4 j := by
  pointwise [k0_pay50]
  simp only [bit3 h, h, Words.pick, Words.infinity, decide_eq_true_eq]
  rfl

/-- The bits of round 4. -/
theorem bit4 (h : ∀ j, V (ix3 s i j) = Spec.after d 3 j) (j : Fin 128) :
    k0_pay51 (F := Ideal) V (ix3 s i j) = BitVec.ofBool (decide (Spec.after d 4 j = Spec.low (Spec.after d 4))) := by
  pointwise [k0_pay51]
  simp only [row4 h, Words.infinity]
  rfl

/-- The row after round 4. -/
theorem row5 (h : ∀ j, V (ix3 s i j) = Spec.after d 3 j) (j : Fin 128) :
    k0_pay52 (F := Ideal) V (ix3 s i j) = Spec.after d 5 j := by
  pointwise [k0_pay52]
  simp only [bit4 h, row4 h, Words.pick, Words.infinity, decide_eq_true_eq]
  rfl

/-- The bits of round 5. -/
theorem bit5 (h : ∀ j, V (ix3 s i j) = Spec.after d 3 j) (j : Fin 128) :
    k0_pay53 (F := Ideal) V (ix3 s i j) = BitVec.ofBool (decide (Spec.after d 5 j = Spec.low (Spec.after d 5))) := by
  pointwise [k0_pay53]
  simp only [row5 h, Words.infinity]
  rfl

/-- The row after round 5. -/
theorem row6 (h : ∀ j, V (ix3 s i j) = Spec.after d 3 j) (j : Fin 128) :
    k0_pay54 (F := Ideal) V (ix3 s i j) = Spec.after d 6 j := by
  pointwise [k0_pay54]
  simp only [bit5 h, row5 h, Words.pick, Words.infinity, decide_eq_true_eq]
  rfl

/-- The bits of round 6. -/
theorem bit6 (h : ∀ j, V (ix3 s i j) = Spec.after d 3 j) (j : Fin 128) :
    k0_pay55 (F := Ideal) V (ix3 s i j) = BitVec.ofBool (decide (Spec.after d 6 j = Spec.low (Spec.after d 6))) := by
  pointwise [k0_pay55]
  simp only [row6 h, Words.infinity]
  rfl

/-- The row after round 6. -/
theorem row7 (h : ∀ j, V (ix3 s i j) = Spec.after d 3 j) (j : Fin 128) :
    k0_pay56 (F := Ideal) V (ix3 s i j) = Spec.after d 7 j := by
  pointwise [k0_pay56]
  simp only [bit6 h, row6 h, Words.pick, Words.infinity, decide_eq_true_eq]
  rfl

/-- The bits of round 7. -/
theorem bit7 (h : ∀ j, V (ix3 s i j) = Spec.after d 3 j) (j : Fin 128) :
    k0_pay57 (F := Ideal) V (ix3 s i j) = BitVec.ofBool (decide (Spec.after d 7 j = Spec.low (Spec.after d 7))) := by
  pointwise [k0_pay57]
  simp only [row7 h, Words.infinity]
  rfl

/-- The last round's bits, as words. -/
theorem word8 (h : ∀ j, V (ix3 s i j) = Spec.after d 3 j) (j : Fin 128) :
    k0_pay59 (F := Ideal) V (ix3 s i j)
      = (BitVec.ofBool (decide (Spec.after d 8 j = Spec.low (Spec.after d 8)))).setWidth 32 := by
  pointwise [k0_pay59]
  simp only [bit7 h, row7 h, Words.pick, Words.infinity, decide_eq_true_eq]
  rfl

/-- What the first two counted rounds struck. -/
theorem sum2 (h : distRow v s i = Spec.wide d) (j : Fin 128) :
    k0_pay47 (F := Ideal) v (ix3 s i j) = 0 + Spec.hit d 1 j + Spec.hit d 2 j := by
  pointwise [k0_pay47]
  simp only [bit1 h, bit2 h, Words.number, decide_eq_true_eq]
  simp only [Spec.hit]

/-- What the next five struck. -/
theorem sum7 (U : FVec Ideal S32x128x128 .f32) (h : ∀ j, V (ix3 s i j) = Spec.after d 3 j) (j : Fin 128) :
    k0_pay58 (F := Ideal) U V (ix3 s i j)
      = U (ix3 s i j) + Spec.hit d 3 j + Spec.hit d 4 j + Spec.hit d 5 j + Spec.hit d 6 j + Spec.hit d 7 j := by
  pointwise [k0_pay58]
  simp only [bit3 h, bit4 h, bit5 h, bit6 h, bit7 h, Words.number, decide_eq_true_eq]
  simp only [Spec.hit]

end

/-- The sum of the struck places of a token's row is the indicator of its neighbours. -/
theorem struck (v : FVec Ideal S4096x64 .f32) (s : Fin 32) (t : Fin 121 → Fin 64 → EReal)
    (hv : ∀ (p : Fin 121) (k : Fin 64), v (ix2 (tokenRow s (Spec.Ranked.at128 p)) k) = t p k) (i : Fin 121)
    (e : Fin 9 → Fin 121) (he : Spec.Ranked (Spec.dist t i) e) (j : Fin 128) :
    k0_pay58 (F := Ideal) (k0_pay47 v) (k0_pay48 v) (ix3 s (Spec.Ranked.at128 i) j)
        + FloatOps.sitofp (F := Ideal) .f32 (k0_pay59 (F := Ideal) (k0_pay48 v) (ix3 s (Spec.Ranked.at128 i) j))
      = Spec.near e j := by
  have h := distRow_eq v s t hv i
  rw [sum7 (k0_pay47 v) (row3 h), sum2 h, word8 (row3 h), Words.number]
  simp only [decide_eq_true_eq]
  exact Spec.hits_eq he j

end Cert.Proof.K

end
-- ==== Proof.KGraph.lean ====
/- The kernel's graph layer and its activation. -/
module

public import proofs.«01_k».proof.Proof.KRounds
public import proofs.«01_k».proof.Proof.Gen.KernelIdeal.Skeleton
public import Idealize.ShloMosaic.Lib.Pointwise

@[expose] public section

set_option maxRecDepth 16384

noncomputable section

open Idealize.ShloMosaic Cert.KernelIdeal Cert.KernelIdeal.Gen

namespace Cert.Proof.K

/-- The graph layer before its activation, as the printed operations leave it. -/
theorem graph_raw (v : FVec Ideal S4096x64 .f32) (A : FVec Ideal S32x128x128 .f32) (B : IVec S32x128x128 32)
    (ws wn : FVec Ideal S64x64 .f32) (gb : FVec Ideal S1x64 .f32) (s : Fin 32) (q : Fin 128) (n : Fin 64) :
    k0_pay60 (F := Ideal) v A B ws wn gb (ix2 ⟨s * 128 + q, by omega⟩ n)
      = (∑ k, v (ix2 (tokenRow s q) k) * ws (ix2 k n))
        + ((∑ j, (A (ix3 s q j) + FloatOps.sitofp (F := Ideal) .f32 (B (ix3 s q j)))
            * ∑ k, v (ix2 (tokenRow s j) k) * wn (ix2 k n)) * Spec.invDegree
          + ∑ k, v (ix2 (tokenRow s q) k) * wn (ix2 k n)) + gb (ix2 0 n) := by
  pointwise [k0_pay60]
  rfl

/-- A sum over the 128 places of a row that is zero past the tokens. -/
theorem sum_tokens (f : Fin 128 → EReal) (hf : ∀ j : Fin 128, 121 ≤ j.val → f j = 0) :
    ∑ j, f j = ∑ p : Fin 121, f (Spec.Ranked.at128 p) := by
  rw [show (∑ j, f j) = ∑ j : Fin (121 + 7), f j from rfl, Fin.sum_univ_add]
  rw [show (∑ i : Fin 7, f (Fin.natAdd 121 i)) = 0 from
    Finset.sum_eq_zero fun i _ => hf _ (by simp [Fin.natAdd])]
  rw [add_zero]
  rfl

/-- Nothing past the tokens is a neighbour. -/
theorem near_high (e : Fin 9 → Fin 121) (j : Fin 128) (hj : 121 ≤ j.val) : Spec.near e j = 0 := by
  unfold Spec.near
  rw [if_neg]
  rintro ⟨s, hs⟩
  have := (e s.succ).isLt
  omega

/-- The graph layer before its activation, from the tokens and their neighbours. -/
theorem graph (v : FVec Ideal S4096x64 .f32) (A : FVec Ideal S32x128x128 .f32) (B : IVec S32x128x128 32)
    (ws wn : FVec Ideal S64x64 .f32) (gb : FVec Ideal S1x64 .f32) (s : Fin 32) (t : Fin 121 → Fin 64 → EReal)
    (hv : ∀ (p : Fin 121) (k : Fin 64), v (ix2 (tokenRow s (Spec.Ranked.at128 p)) k) = t p k)
    (e : Fin 121 → Fin 9 → Fin 121)
    (hAB : ∀ (i : Fin 121) (j : Fin 128), A (ix3 s (Spec.Ranked.at128 i) j)
      + FloatOps.sitofp (F := Ideal) .f32 (B (ix3 s (Spec.Ranked.at128 i) j)) = Spec.near (e i) j)
    (i : Fin 121) (n : Fin 64) :
    k0_pay60 (F := Ideal) v A B ws wn gb (ix2 (tokenRow s (Spec.Ranked.at128 i)) n)
      = Spec.pre t (fun i j => Spec.near (e i) (Spec.Ranked.at128 j)) (fun k n => ws (ix2 k n)) (fun k n => wn (ix2 k n))
          (fun n => gb (ix2 0 n)) i n := by
  refine (graph_raw v A B ws wn gb s (Spec.Ranked.at128 i) n).trans ?_
  simp only [hAB]
  rw [sum_tokens _ fun j hj => by rw [near_high (e i) j hj, zero_mul]]
  simp only [hv]
  rfl

/-- The activation of a channel. -/
theorem activate (v : FVec Ideal S4096x64 .f32) (A : FVec Ideal S32x128x128 .f32) (B : IVec S32x128x128 32)
    (ws wn : FVec Ideal S64x64 .f32) (gb : FVec Ideal S1x64 .f32) (ka : FVec Ideal S3x64 .f32) (kb : FVec Ideal S2x64 .f32)
    (r : Fin 4096) (n : Fin 64) :
    k0_pay64 (F := Ideal) (k0_pay62 v A B ws wn gb ka) (k0_pay63 v A B ws wn gb kb) (ix2 r n)
      = Spec.act (fun n i => ka (ix2 i n)) (fun n i => kb (ix2 i n)) n (k0_pay60 (F := Ideal) v A B ws wn gb (ix2 r n)) := by
  pointwise [k0_pay64, k0_pay62, k0_pay63, k0_pay61]
  unfold Spec.act
  rfl

end Cert.Proof.K

end
-- ==== Proof.KPool.lean ====
/- The kernel's radial terms, attention and pooling. -/
module

public import proofs.«01_k».proof.Proof.KGraph
public import proofs.«01_k».proof.Proof.Gen.KernelIdeal.Skeleton
public import Idealize.ShloMosaic.Lib.Pointwise

@[expose] public section

set_option maxRecDepth 16384

noncomputable section

open Idealize.ShloMosaic Cert.KernelIdeal Cert.KernelIdeal.Gen

namespace Cert.Proof.K

variable (P Q : FVec Ideal S4096x64 .f32) (ce ga : FVec Ideal S9x64 .f32)

/-- The first eight radial terms added up. -/
abbrev eight : FVec Ideal S4096x64 .f32 :=
  k0_pay71 (F := Ideal) (k0_pay64 P Q) (k0_pay65 ce) (k0_pay66 ga) (k0_pay67 P Q ce ga) (k0_pay68 P Q ce) (k0_pay69 ga) k0_pay70

/-- The first eight radial terms of a channel. -/
theorem eight_eq (r : Fin 4096) (n : Fin 64) :
    eight P Q ce ga (ix2 r n)
      = Spec.bump (ce (ix2 0 n)) (ga (ix2 0 n)) (k0_pay64 (F := Ideal) P Q (ix2 r n))
        + Spec.bump (ce (ix2 1 n)) (ga (ix2 1 n)) (k0_pay64 (F := Ideal) P Q (ix2 r n))
        + Spec.bump (ce (ix2 2 n)) (ga (ix2 2 n)) (k0_pay64 (F := Ideal) P Q (ix2 r n))
        + Spec.bump (ce (ix2 3 n)) (ga (ix2 3 n)) (k0_pay64 (F := Ideal) P Q (ix2 r n))
        + Spec.bump (ce (ix2 4 n)) (ga (ix2 4 n)) (k0_pay64 (F := Ideal) P Q (ix2 r n))
        + Spec.bump (ce (ix2 5 n)) (ga (ix2 5 n)) (k0_pay64 (F := Ideal) P Q (ix2 r n))
        + Spec.bump (ce (ix2 6 n)) (ga (ix2 6 n)) (k0_pay64 (F := Ideal) P Q (ix2 r n))
        + Spec.bump (ce (ix2 7 n)) (ga (ix2 7 n)) (k0_pay64 (F := Ideal) P Q (ix2 r n)) := by
  unfold eight
  pointwise [k0_pay71, k0_pay65, k0_pay66, k0_pay67, k0_pay68, k0_pay69, k0_pay70]
  simp only [zero_sub]
  rfl

/-- The nine radial terms, one by one. -/
theorem nine (c γ : Fin 9 → EReal) (g : EReal) :
    (∑ j, Spec.bump (c j) (γ j) g)
      = Spec.bump (c 0) (γ 0) g + Spec.bump (c 1) (γ 1) g + Spec.bump (c 2) (γ 2) g + Spec.bump (c 3) (γ 3) g
        + Spec.bump (c 4) (γ 4) g + Spec.bump (c 5) (γ 5) g + Spec.bump (c 6) (γ 6) g + Spec.bump (c 7) (γ 7) g
        + Spec.bump (c 8) (γ 8) g := by
  simp only [Fin.sum_univ_castSucc, Fin.sum_univ_zero, zero_add]
  rfl

/-- The attention of a token's channel. -/
theorem attention (w1 : FVec Ideal S64x16 .f32) (b1 : FVec Ideal S1x16 .f32) (w2 : FVec Ideal S16x64 .f32)
    (b2 : FVec Ideal S1x64 .f32) (s : Fin 32) (q : Fin 128) (n : Fin 64) :
    k0_pay73 (F := Ideal) (k0_pay64 P Q) (k0_pay66 ga) (eight P Q ce ga) (k0_pay72 (k0_pay65 ce)) w1 b1 w2 b2 (ix3 s q n)
      = Spec.attend (fun m k => w1 (ix2 k m)) (fun m => b1 (ix2 0 m)) (fun n m => w2 (ix2 m n)) (fun n => b2 (ix2 0 n))
          (fun n j => ce (ix2 j n)) (fun n j => ga (ix2 j n)) (fun k => k0_pay64 (F := Ideal) P Q (ix2 (tokenRow s q) k)) n := by
  pointwise [k0_pay73, k0_pay72, k0_pay65, k0_pay66]
  simp only [eight_eq]
  unfold Spec.attend Spec.hidden Spec.radial
  simp only [nine, zero_sub]
  rfl

/-- Whether place `q` holds a token. -/
theorem mask (q : Fin 128) : k0_pay74 (ix3 0 q 0) = BitVec.ofBool (decide (q.val < 121)) := by
  pointwise [k0_pay74]
  rw [WordCmp.cmpi_slt_ofNat (by omega) (by norm_num)]

/-- The greatest over the 128 places, those past the tokens lowest, is the greatest over the tokens. -/
theorem top_tokens (f : Fin 128 → EReal) :
    (Finset.univ.fold max ⊥ fun q : Fin 128 => if q.val < 121 then f q else ⊥)
      = Finset.univ.sup fun p : Fin 121 => f (Spec.Ranked.at128 p) := by
  show (Finset.univ.sup fun q : Fin 128 => if q.val < 121 then f q else ⊥) = _
  apply le_antisymm
  · refine Finset.sup_le fun q _ => ?_
    by_cases h : q.val < 121
    · rw [if_pos h]
      exact Finset.le_sup (f := fun p : Fin 121 => f (Spec.Ranked.at128 p)) (Finset.mem_univ ⟨q.val, h⟩)
    · rw [if_neg h]
      exact bot_le
  · refine Finset.sup_le fun p _ => ?_
    have := Finset.le_sup (f := fun q : Fin 128 => if q.val < 121 then f q else ⊥) (Finset.mem_univ (Spec.Ranked.at128 p))
    rwa [if_pos (show (Spec.Ranked.at128 p).val < 121 from p.isLt)] at this

/-- The sum the pooling divides. -/
theorem total (w1 : FVec Ideal S64x16 .f32) (b1 : FVec Ideal S1x16 .f32) (w2 : FVec Ideal S16x64 .f32)
    (b2 : FVec Ideal S1x64 .f32) (U V : FVec Ideal S4096x64 .f32) (G : FVec Ideal S4096x64 .f32) (s : Fin 32) (n : Fin 64) :
    k0_pay75 (F := Ideal) G ga U V w1 b1 w2 b2 (ix2 s n)
      = ∑ p : Fin 121, k0_pay73 (F := Ideal) G ga U V w1 b1 w2 b2 (ix3 s (Spec.Ranked.at128 p) n) := by
  pointwise [k0_pay75]
  simp only [mask, Words.pick, decide_eq_true_eq]
  rw [sum_tokens _ fun j hj => if_neg (not_lt.mpr hj)]
  exact Finset.sum_congr rfl fun p _ => if_pos p.isLt

/-- The pooled channel of an image. -/
theorem pooled (V : FVec Ideal S32x128x64 .f32) (S : FVec Ideal S32x64 .f32) (s : Fin 32) (n : Fin 64)
    (hS : S (ix2 s n) = ∑ p : Fin 121, V (ix3 s (Spec.Ranked.at128 p) n)) :
    k0_pay1 (F := Ideal) V k0_pay74 S (Scalar.ofBits .f32 0x42F20000#32) (ix3 s 0 n)
      = Spec.pool (fun p n => V (ix3 s (Spec.Ranked.at128 p) n)) n := by
  pointwise [k0_pay1]
  simp only [mask, Words.pick, Words.minus_infinity, decide_eq_true_eq]
  rw [top_tokens, hS]
  rfl

end Cert.Proof.K

end
-- ==== Proof.KBlock.lean ====
/- One grid step of the kernel: the pooled channels of the images of its block. -/
module

public import proofs.«01_k».proof.Proof.KConv1
public import proofs.«01_k».proof.Proof.KConv2
public import proofs.«01_k».proof.Proof.KConv3
public import proofs.«01_k».proof.Proof.KPool
public import proofs.«01_k».proof.Proof.Gen.KernelIdeal.Frame
public import Idealize.ShloMosaic.Lib.Pipeline.Value

@[expose] public section

set_option maxRecDepth 16384

noncomputable section

open Idealize.ShloMosaic Cert.KernelIdeal Cert.KernelIdeal.Gen

namespace Cert.Proof.K

variable (x0 : FVec Ideal S32x200x121 .f32) (x1 : FVec Ideal S9x200x32 .f32) (x2 : FVec Ideal S1x32 .f32) (x3 : FVec Ideal S9x32x64 .f32) (x4 : FVec Ideal S1x64 .f32) (x5 : FVec Ideal S9x64x64 .f32) (x6 : FVec Ideal S1x64 .f32) (x7 : FVec Ideal S64x64 .f32) (x8 : FVec Ideal S64x64 .f32) (x9 : FVec Ideal S1x64 .f32) (x10 : FVec Ideal S3x64 .f32) (x11 : FVec Ideal S2x64 .f32) (x12 : FVec Ideal S9x64 .f32) (x13 : FVec Ideal S9x64 .f32) (x14 : FVec Ideal S64x16 .f32) (x15 : FVec Ideal S1x16 .f32) (x16 : FVec Ideal S16x64 .f32) (x17 : FVec Ideal S1x64 .f32)

/-- The second layer's padded block, in a grid step. -/
def grid2 (s : Fin 32) : Spec.Grid 64 :=
  Spec.layer (grid1 x0 x1 x2 s) (Spec.taps x3) (fun n => x4 (ix2 0 n))

/-- The tokens' channels, all images' in one column. -/
abbrev stepTokens : FVec Ideal S4096x64 .f32 :=
  out3 (k0_pay19 x4) (k0_pay20 (out1 x0 x1 x2) (k0_pay18 x3)) k0_pay24 k0_pay25
    (k0_pay26 (k0_pay21 (out1 x0 x1 x2) (k0_pay18 x3))) (k0_pay27 (k0_pay22 (out1 x0 x1 x2) (k0_pay18 x3))) x5 x6

/-- The tokens of image `s` of the block. -/
def tokensOf (s : Fin 32) : Fin 121 → Fin 64 → EReal :=
  Spec.tokens (image x0 s) (Spec.taps x1) (fun n => x2 (ix2 0 n)) (Spec.taps x3) (fun n => x4 (ix2 0 n)) (Spec.taps x5)
    (fun n => x6 (ix2 0 n))

/-- The column holds the images' tokens. -/
theorem stepTokens_eq (s : Fin 32) (p : Fin 121) (k : Fin 64) :
    stepTokens x0 x1 x2 x3 x4 x5 x6 (ix2 (tokenRow s (Spec.Ranked.at128 p)) k) = tokensOf x0 x1 x2 x3 x4 x5 x6 s p k := by
  unfold stepTokens
  rw [conv3 _ _ _ _ _ _ x5 x6 (fun s => grid2 x0 x1 x2 x3 x4 s)
    (fun s p k => conv2 (out1 x0 x1 x2) x3 x4 (grid1 x0 x1 x2) (conv1 x0 x1 x2) s p k)]
  unfold Spec.row
  rw [dif_pos (show 16 ≤ (Spec.Ranked.at128 p).val + 16 ∧ (Spec.Ranked.at128 p).val + 16 < 137 by
    have := p.isLt
    unfold Spec.Ranked.at128
    constructor <;> dsimp only <;> omega)]
  rfl

/-- The graph layer's numerator and denominator. -/
abbrev stepNum : FVec Ideal S4096x64 .f32 :=
  k0_pay62 (F := Ideal) (stepTokens x0 x1 x2 x3 x4 x5 x6)
    (k0_pay58 (k0_pay47 (stepTokens x0 x1 x2 x3 x4 x5 x6)) (k0_pay48 (stepTokens x0 x1 x2 x3 x4 x5 x6)))
    (k0_pay59 (k0_pay48 (stepTokens x0 x1 x2 x3 x4 x5 x6))) x7 x8 x9 x10

/-- See `stepNum`. -/
abbrev stepDen : FVec Ideal S4096x64 .f32 :=
  k0_pay63 (F := Ideal) (stepTokens x0 x1 x2 x3 x4 x5 x6)
    (k0_pay58 (k0_pay47 (stepTokens x0 x1 x2 x3 x4 x5 x6)) (k0_pay48 (stepTokens x0 x1 x2 x3 x4 x5 x6)))
    (k0_pay59 (k0_pay48 (stepTokens x0 x1 x2 x3 x4 x5 x6))) x7 x8 x9 x11

/-- What a grid step stores. -/
def step : FVec Ideal S32x1x64 .f32 :=
  k0_pay1 (F := Ideal)
    (k0_pay73 (k0_pay64 (stepNum x0 x1 x2 x3 x4 x5 x6 x7 x8 x9 x10) (stepDen x0 x1 x2 x3 x4 x5 x6 x7 x8 x9 x11)) (k0_pay66 x13)
      (eight (stepNum x0 x1 x2 x3 x4 x5 x6 x7 x8 x9 x10) (stepDen x0 x1 x2 x3 x4 x5 x6 x7 x8 x9 x11) x12 x13)
      (k0_pay72 (k0_pay65 x12)) x14 x15 x16 x17)
    k0_pay74
    (k0_pay75 (k0_pay64 (stepNum x0 x1 x2 x3 x4 x5 x6 x7 x8 x9 x10) (stepDen x0 x1 x2 x3 x4 x5 x6 x7 x8 x9 x11)) (k0_pay66 x13)
      (eight (stepNum x0 x1 x2 x3 x4 x5 x6 x7 x8 x9 x10) (stepDen x0 x1 x2 x3 x4 x5 x6 x7 x8 x9 x11) x12 x13)
      (k0_pay72 (k0_pay65 x12)) x14 x15 x16 x17)
    (Scalar.ofBits .f32 0x42F20000#32)

/-- The rectangle of a whole two-axis buffer starts at zero. -/
theorem zero2 : (![0, 0] : Fin 2 → ℕ) = fun _ => 0 := funext fun a => by fin_cases a <;> rfl

/-- The rectangle of a whole three-axis buffer starts at zero. -/
theorem zero3 : (![0, 0, 0] : Fin 3 → ℕ) = fun _ => 0 := funext fun a => by fin_cases a <;> rfl

/-- The buffer after the body is what the step stores. -/
theorem out_eq_step : out0_18 (F := Ideal) x0 x1 x2 x3 x4 x5 x6 x7 x8 x9 x10 x11 x12 x13 x14 x15 x16 x17 = step x0 x1 x2 x3 x4 x5 x6 x7 x8 x9 x10 x11 x12 x13 x14 x15 x16 x17 := by
  unfold out0_18 k0_pay98 k0_pay97 k0_pay96 k0_pay95 k0_pay94 k0_pay93 k0_pay92 k0_pay91 k0_pay90 k0_pay89 k0_pay88 k0_pay87 k0_pay86
    k0_pay85 k0_pay84 k0_pay83 k0_pay82 k0_pay81 k0_pay80 k0_pay79 k0_pay78 k0_pay77 k0_pay76
  rw [View.canon_unit_zero zero3]
  simp only [View.ld_unit_zero (S := S32x200x121) zero3, View.ld_unit_zero (S := S9x200x32) zero3, View.ld_unit_zero (S := S9x32x64) zero3, View.ld_unit_zero (S := S9x64x64) zero3,
    View.ld_unit_zero (S := S1x32) zero2, View.ld_unit_zero (S := S1x64) zero2, View.ld_unit_zero (S := S64x64) zero2, View.ld_unit_zero (S := S3x64) zero2, View.ld_unit_zero (S := S2x64) zero2, View.ld_unit_zero (S := S9x64) zero2, View.ld_unit_zero (S := S64x16) zero2, View.ld_unit_zero (S := S1x16) zero2, View.ld_unit_zero (S := S16x64) zero2]
  rfl

/-- A grid step pools each image of its block. -/
theorem step_eq (s : Fin 32) (e : Fin 121 → Fin 9 → Fin 121)
    (he : ∀ i, Spec.Ranked (Spec.dist (tokensOf x0 x1 x2 x3 x4 x5 x6 s) i) (e i)) (n : Fin 64) :
    step x0 x1 x2 x3 x4 x5 x6 x7 x8 x9 x10 x11 x12 x13 x14 x15 x16 x17 (ix3 s 0 n)
      = Spec.pooled (tokensOf x0 x1 x2 x3 x4 x5 x6 s) (fun i j => Spec.near (e i) (Spec.Ranked.at128 j))
          (fun k n => x7 (ix2 k n)) (fun k n => x8 (ix2 k n)) (fun n => x9 (ix2 0 n)) (fun n i => x10 (ix2 i n))
          (fun n i => x11 (ix2 i n)) (fun n j => x12 (ix2 j n)) (fun n j => x13 (ix2 j n)) (fun m k => x14 (ix2 k m))
          (fun m => x15 (ix2 0 m)) (fun n m => x16 (ix2 m n)) (fun n => x17 (ix2 0 n)) n := by
  have hv := stepTokens_eq x0 x1 x2 x3 x4 x5 x6 s
  unfold step
  refine (pooled _ _ s n (total _ _ _ _ _ _ _ _ s n)).trans ?_
  unfold Spec.pooled
  refine congrArg (fun a => Spec.pool a n) (funext fun p => funext fun n => ?_)
  refine (attention _ _ _ _ x14 x15 x16 x17 s (Spec.Ranked.at128 p) n).trans ?_
  refine congrArg (fun g => Spec.attend _ _ _ _ _ _ g n) (funext fun k => ?_)
  refine (activate _ _ _ _ _ _ x10 x11 (tokenRow s (Spec.Ranked.at128 p)) k).trans ?_
  exact congrArg (Spec.act _ _ k)
    (graph _ _ _ x7 x8 x9 s _ hv e (fun i j => struck _ s _ hv i (e i) (he i) j) p k)

/-- The buffer after the head's body. -/
theorem head_eq (x0 : FVec Ideal S256x64 .f32) (x1 : FVec Ideal S64x128 .f32) (x2 : FVec Ideal S1x128 .f32)
    (x3 : FVec Ideal S128x16 .f32) (x4 : FVec Ideal S1x16 .f32) (b : Fin 256) (o : Fin 16) :
    out1_5 (F := Ideal) x0 x1 x2 x3 x4 (ix2 b o)
      = Spec.head (fun m k => x1 (ix2 k m)) (fun m => x2 (ix2 0 m)) (fun o m => x3 (ix2 m o)) (fun o => x4 (ix2 0 o))
          (fun k => x0 (ix2 b k)) o := by
  unfold out1_5
  rw [View.canon_unit_zero zero2]
  simp only [View.ld_unit_zero (S := S256x64) zero2, View.ld_unit_zero (S := S64x128) zero2, View.ld_unit_zero (S := S1x128) zero2, View.ld_unit_zero (S := S128x16) zero2, View.ld_unit_zero (S := S1x16) zero2]
  pointwise [k1_pay1]
  rfl

end Cert.Proof.K

end
-- ==== Proof.KReads.lean ====
/- What each grid step of the kernel reads: its thirty-two images, and the whole of every other array. -/
module

public import proofs.«01_k».proof.Proof.Gen.KernelIdeal.Frame
public import Idealize.ShloMosaic.Lib.Pipeline.Value
public import Idealize.ShloMosaic.Lib.Pointwise

@[expose] public section

noncomputable section

namespace Cert.Proof.K

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The image of the whole batch that is image `s` of step `t`. -/
def batch (t : Fin cfg0.N) (s : Fin 32) : Fin 256 :=
  ⟨32 * t.val + s.val, by have := t.isLt; have : cfg0.N = 8 := N_0; omega⟩

/-- The step's block of the images: image `s` of the block is image `32 t + s` of the batch. -/
theorem block_images (c : Dev nD) (t : Fin cfg0.N) (s : Fin 32) (k : Fin 200) (p : Fin 121) :
    (iblk0 V c 0 t : FVec Ideal S32x200x121 .f32) (ix3 s k p)
      = (V c main_v0 : FVec Ideal S256x200x121 .f32) (ix3 (batch t s) k p) := by
  unfold iblk0
  rw [View.read_apply]
  show V c main_v0 _ = _
  refine congrArg (V c main_v0) ?_
  have e : win0_0.index t (0 : Fin 3) = t.val ∧ win0_0.index t (1 : Fin 3) = 0 ∧ win0_0.index t (2 : Fin 3) = 0 := by
    rcases fin_N0 t with rfl | rfl | rfl | rfl | rfl | rfl | rfl | rfl <;> decide +kernel
  obtain ⟨e0, e1, e2⟩ := e
  funext a
  apply Fin.ext
  match a with
  | ⟨0, _⟩ => show win0_0.index t (0 : Fin 3) * 32 + 1 * s.val = 32 * t.val + s.val; omega
  | ⟨1, _⟩ => show win0_0.index t (1 : Fin 3) * 200 + 1 * k.val = k.val; omega
  | ⟨2, _⟩ => show win0_0.index t (2 : Fin 3) * 121 + 1 * p.val = p.val; omega

/-- Every step reads the whole of operand 1 of region 0. -/
theorem whole0_1 (c : Dev nD) (t : Fin cfg0.N) :
    (iblk0 V c 1 t : FVec Ideal S9x200x32 .f32) = V c main_v2 := by
  have e : win0_1.index t (0 : Fin 3) = 0 ∧ win0_1.index t (1 : Fin 3) = 0 ∧ win0_1.index t (2 : Fin 3) = 0 :=
    (by decide +kernel : ∀ t : Fin grid0.N, win0_1.index t (0 : Fin 3) = 0 ∧ win0_1.index t (1 : Fin 3) = 0 ∧ win0_1.index t (2 : Fin 3) = 0) t
  obtain ⟨e0, e1, e2⟩ := e
  funext j
  show V c main_v2 (((cfg0.win 1).blk t).view.emb j) = V c main_v2 j
  refine congrArg (V c main_v2) (funext fun a => Fin.ext ?_)
  match a with
  | ⟨0, _⟩ => show win0_1.index t (0 : Fin 3) * 9 + 1 * (j 0).val = (j 0).val; omega
  | ⟨1, _⟩ => show win0_1.index t (1 : Fin 3) * 200 + 1 * (j 1).val = (j 1).val; omega
  | ⟨2, _⟩ => show win0_1.index t (2 : Fin 3) * 32 + 1 * (j 2).val = (j 2).val; omega

/-- Every step reads the whole of operand 2 of region 0. -/
theorem whole0_2 (c : Dev nD) (t : Fin cfg0.N) :
    (iblk0 V c 2 t : FVec Ideal S1x32 .f32) = V c main_v7 := by
  have e : win0_2.index t (0 : Fin 2) = 0 ∧ win0_2.index t (1 : Fin 2) = 0 :=
    (by decide +kernel : ∀ t : Fin grid0.N, win0_2.index t (0 : Fin 2) = 0 ∧ win0_2.index t (1 : Fin 2) = 0) t
  obtain ⟨e0, e1⟩ := e
  funext j
  show V c main_v7 (((cfg0.win 2).blk t).view.emb j) = V c main_v7 j
  refine congrArg (V c main_v7) (funext fun a => Fin.ext ?_)
  match a with
  | ⟨0, _⟩ => show win0_2.index t (0 : Fin 2) * 1 + 1 * (j 0).val = (j 0).val; omega
  | ⟨1, _⟩ => show win0_2.index t (1 : Fin 2) * 32 + 1 * (j 1).val = (j 1).val; omega

/-- Every step reads the whole of operand 3 of region 0. -/
theorem whole0_3 (c : Dev nD) (t : Fin cfg0.N) :
    (iblk0 V c 3 t : FVec Ideal S9x32x64 .f32) = V c main_v4 := by
  have e : win0_3.index t (0 : Fin 3) = 0 ∧ win0_3.index t (1 : Fin 3) = 0 ∧ win0_3.index t (2 : Fin 3) = 0 :=
    (by decide +kernel : ∀ t : Fin grid0.N, win0_3.index t (0 : Fin 3) = 0 ∧ win0_3.index t (1 : Fin 3) = 0 ∧ win0_3.index t (2 : Fin 3) = 0) t
  obtain ⟨e0, e1, e2⟩ := e
  funext j
  show V c main_v4 (((cfg0.win 3).blk t).view.emb j) = V c main_v4 j
  refine congrArg (V c main_v4) (funext fun a => Fin.ext ?_)
  match a with
  | ⟨0, _⟩ => show win0_3.index t (0 : Fin 3) * 9 + 1 * (j 0).val = (j 0).val; omega
  | ⟨1, _⟩ => show win0_3.index t (1 : Fin 3) * 32 + 1 * (j 1).val = (j 1).val; omega
  | ⟨2, _⟩ => show win0_3.index t (2 : Fin 3) * 64 + 1 * (j 2).val = (j 2).val; omega

/-- Every step reads the whole of operand 4 of region 0. -/
theorem whole0_4 (c : Dev nD) (t : Fin cfg0.N) :
    (iblk0 V c 4 t : FVec Ideal S1x64 .f32) = V c main_v8 := by
  have e : win0_4.index t (0 : Fin 2) = 0 ∧ win0_4.index t (1 : Fin 2) = 0 :=
    (by decide +kernel : ∀ t : Fin grid0.N, win0_4.index t (0 : Fin 2) = 0 ∧ win0_4.index t (1 : Fin 2) = 0) t
  obtain ⟨e0, e1⟩ := e
  funext j
  show V c main_v8 (((cfg0.win 4).blk t).view.emb j) = V c main_v8 j
  refine congrArg (V c main_v8) (funext fun a => Fin.ext ?_)
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- Every step reads the whole of operand 5 of region 0. -/
theorem whole0_5 (c : Dev nD) (t : Fin cfg0.N) :
    (iblk0 V c 5 t : FVec Ideal S9x64x64 .f32) = V c main_v6 := by
  have e : win0_5.index t (0 : Fin 3) = 0 ∧ win0_5.index t (1 : Fin 3) = 0 ∧ win0_5.index t (2 : Fin 3) = 0 :=
    (by decide +kernel : ∀ t : Fin grid0.N, win0_5.index t (0 : Fin 3) = 0 ∧ win0_5.index t (1 : Fin 3) = 0 ∧ win0_5.index t (2 : Fin 3) = 0) t
  obtain ⟨e0, e1, e2⟩ := e
  funext j
  show V c main_v6 (((cfg0.win 5).blk t).view.emb j) = V c main_v6 j
  refine congrArg (V c main_v6) (funext fun a => Fin.ext ?_)
  match a with
  | ⟨0, _⟩ => show win0_5.index t (0 : Fin 3) * 9 + 1 * (j 0).val = (j 0).val; omega
  | ⟨1, _⟩ => show win0_5.index t (1 : Fin 3) * 64 + 1 * (j 1).val = (j 1).val; omega
  | ⟨2, _⟩ => show win0_5.index t (2 : Fin 3) * 64 + 1 * (j 2).val = (j 2).val; omega

/-- Every step reads the whole of operand 6 of region 0. -/
theorem whole0_6 (c : Dev nD) (t : Fin cfg0.N) :
    (iblk0 V c 6 t : FVec Ideal S1x64 .f32) = V c main_v9 := by
  have e : win0_6.index t (0 : Fin 2) = 0 ∧ win0_6.index t (1 : Fin 2) = 0 :=
    (by decide +kernel : ∀ t : Fin grid0.N, win0_6.index t (0 : Fin 2) = 0 ∧ win0_6.index t (1 : Fin 2) = 0) t
  obtain ⟨e0, e1⟩ := e
  funext j
  show V c main_v9 (((cfg0.win 6).blk t).view.emb j) = V c main_v9 j
  refine congrArg (V c main_v9) (funext fun a => Fin.ext ?_)
  match a with
  | ⟨0, _⟩ => show win0_6.index t (0 : Fin 2) * 1 + 1 * (j 0).val = (j 0).val; omega
  | ⟨1, _⟩ => show win0_6.index t (1 : Fin 2) * 64 + 1 * (j 1).val = (j 1).val; omega

/-- Every step reads the whole of operand 7 of region 0. -/
theorem whole0_7 (c : Dev nD) (t : Fin cfg0.N) :
    (iblk0 V c 7 t : FVec Ideal S64x64 .f32) = V c main_arg7 := by
  have e : win0_7.index t (0 : Fin 2) = 0 ∧ win0_7.index t (1 : Fin 2) = 0 :=
    (by decide +kernel : ∀ t : Fin grid0.N, win0_7.index t (0 : Fin 2) = 0 ∧ win0_7.index t (1 : Fin 2) = 0) t
  obtain ⟨e0, e1⟩ := e
  funext j
  show V c main_arg7 (((cfg0.win 7).blk t).view.emb j) = V c main_arg7 j
  refine congrArg (V c main_arg7) (funext fun a => Fin.ext ?_)
  match a with
  | ⟨0, _⟩ => show win0_7.index t (0 : Fin 2) * 64 + 1 * (j 0).val = (j 0).val; omega
  | ⟨1, _⟩ => show win0_7.index t (1 : Fin 2) * 64 + 1 * (j 1).val = (j 1).val; omega

/-- Every step reads the whole of operand 8 of region 0. -/
theorem whole0_8 (c : Dev nD) (t : Fin cfg0.N) :
    (iblk0 V c 8 t : FVec Ideal S64x64 .f32) = V c main_arg8 := by
  have e : win0_8.index t (0 : Fin 2) = 0 ∧ win0_8.index t (1 : Fin 2) = 0 :=
    (by decide +kernel : ∀ t : Fin grid0.N, win0_8.index t (0 : Fin 2) = 0 ∧ win0_8.index t (1 : Fin 2) = 0) t
  obtain ⟨e0, e1⟩ := e
  funext j
  show V c main_arg8 (((cfg0.win 8).blk t).view.emb j) = V c main_arg8 j
  refine congrArg (V c main_arg8) (funext fun a => Fin.ext ?_)
  match a with
  | ⟨0, _⟩ => show win0_8.index t (0 : Fin 2) * 64 + 1 * (j 0).val = (j 0).val; omega
  | ⟨1, _⟩ => show win0_8.index t (1 : Fin 2) * 64 + 1 * (j 1).val = (j 1).val; omega

/-- Every step reads the whole of operand 9 of region 0. -/
theorem whole0_9 (c : Dev nD) (t : Fin cfg0.N) :
    (iblk0 V c 9 t : FVec Ideal S1x64 .f32) = V c main_v10 := by
  have e : win0_9.index t (0 : Fin 2) = 0 ∧ win0_9.index t (1 : Fin 2) = 0 :=
    (by decide +kernel : ∀ t : Fin grid0.N, win0_9.index t (0 : Fin 2) = 0 ∧ win0_9.index t (1 : Fin 2) = 0) t
  obtain ⟨e0, e1⟩ := e
  funext j
  show V c main_v10 (((cfg0.win 9).blk t).view.emb j) = V c main_v10 j
  refine congrArg (V c main_v10) (funext fun a => Fin.ext ?_)
  match a with
  | ⟨0, _⟩ => show win0_9.index t (0 : Fin 2) * 1 + 1 * (j 0).val = (j 0).val; omega
  | ⟨1, _⟩ => show win0_9.index t (1 : Fin 2) * 64 + 1 * (j 1).val = (j 1).val; omega

/-- Every step reads the whole of operand 10 of region 0. -/
theorem whole0_10 (c : Dev nD) (t : Fin cfg0.N) :
    (iblk0 V c 10 t : FVec Ideal S3x64 .f32) = V c main_v11 := by
  have e : win0_10.index t (0 : Fin 2) = 0 ∧ win0_10.index t (1 : Fin 2) = 0 :=
    (by decide +kernel : ∀ t : Fin grid0.N, win0_10.index t (0 : Fin 2) = 0 ∧ win0_10.index t (1 : Fin 2) = 0) t
  obtain ⟨e0, e1⟩ := e
  funext j
  show V c main_v11 (((cfg0.win 10).blk t).view.emb j) = V c main_v11 j
  refine congrArg (V c main_v11) (funext fun a => Fin.ext ?_)
  match a with
  | ⟨0, _⟩ => show win0_10.index t (0 : Fin 2) * 3 + 1 * (j 0).val = (j 0).val; omega
  | ⟨1, _⟩ => show win0_10.index t (1 : Fin 2) * 64 + 1 * (j 1).val = (j 1).val; omega

/-- Every step reads the whole of operand 11 of region 0. -/
theorem whole0_11 (c : Dev nD) (t : Fin cfg0.N) :
    (iblk0 V c 11 t : FVec Ideal S2x64 .f32) = V c main_v12 := by
  have e : win0_11.index t (0 : Fin 2) = 0 ∧ win0_11.index t (1 : Fin 2) = 0 :=
    (by decide +kernel : ∀ t : Fin grid0.N, win0_11.index t (0 : Fin 2) = 0 ∧ win0_11.index t (1 : Fin 2) = 0) t
  obtain ⟨e0, e1⟩ := e
  funext j
  show V c main_v12 (((cfg0.win 11).blk t).view.emb j) = V c main_v12 j
  refine congrArg (V c main_v12) (funext fun a => Fin.ext ?_)
  match a with
  | ⟨0, _⟩ => show win0_11.index t (0 : Fin 2) * 2 + 1 * (j 0).val = (j 0).val; omega
  | ⟨1, _⟩ => show win0_11.index t (1 : Fin 2) * 64 + 1 * (j 1).val = (j 1).val; omega

/-- Every step reads the whole of operand 12 of region 0. -/
theorem whole0_12 (c : Dev nD) (t : Fin cfg0.N) :
    (iblk0 V c 12 t : FVec Ideal S9x64 .f32) = V c main_v13 := by
  have e : win0_12.index t (0 : Fin 2) = 0 ∧ win0_12.index t (1 : Fin 2) = 0 :=
    (by decide +kernel : ∀ t : Fin grid0.N, win0_12.index t (0 : Fin 2) = 0 ∧ win0_12.index t (1 : Fin 2) = 0) t
  obtain ⟨e0, e1⟩ := e
  funext j
  show V c main_v13 (((cfg0.win 12).blk t).view.emb j) = V c main_v13 j
  refine congrArg (V c main_v13) (funext fun a => Fin.ext ?_)
  match a with
  | ⟨0, _⟩ => show win0_12.index t (0 : Fin 2) * 9 + 1 * (j 0).val = (j 0).val; omega
  | ⟨1, _⟩ => show win0_12.index t (1 : Fin 2) * 64 + 1 * (j 1).val = (j 1).val; omega

/-- Every step reads the whole of operand 13 of region 0. -/
theorem whole0_13 (c : Dev nD) (t : Fin cfg0.N) :
    (iblk0 V c 13 t : FVec Ideal S9x64 .f32) = V c main_v14 := by
  have e : win0_13.index t (0 : Fin 2) = 0 ∧ win0_13.index t (1 : Fin 2) = 0 :=
    (by decide +kernel : ∀ t : Fin grid0.N, win0_13.index t (0 : Fin 2) = 0 ∧ win0_13.index t (1 : Fin 2) = 0) t
  obtain ⟨e0, e1⟩ := e
  funext j
  show V c main_v14 (((cfg0.win 13).blk t).view.emb j) = V c main_v14 j
  refine congrArg (V c main_v14) (funext fun a => Fin.ext ?_)
  match a with
  | ⟨0, _⟩ => show win0_13.index t (0 : Fin 2) * 9 + 1 * (j 0).val = (j 0).val; omega
  | ⟨1, _⟩ => show win0_13.index t (1 : Fin 2) * 64 + 1 * (j 1).val = (j 1).val; omega

/-- Every step reads the whole of operand 14 of region 0. -/
theorem whole0_14 (c : Dev nD) (t : Fin cfg0.N) :
    (iblk0 V c 14 t : FVec Ideal S64x16 .f32) = V c main_v15 := by
  have e : win0_14.index t (0 : Fin 2) = 0 ∧ win0_14.index t (1 : Fin 2) = 0 :=
    (by decide +kernel : ∀ t : Fin grid0.N, win0_14.index t (0 : Fin 2) = 0 ∧ win0_14.index t (1 : Fin 2) = 0) t
  obtain ⟨e0, e1⟩ := e
  funext j
  show V c main_v15 (((cfg0.win 14).blk t).view.emb j) = V c main_v15 j
  refine congrArg (V c main_v15) (funext fun a => Fin.ext ?_)
  match a with
  | ⟨0, _⟩ => show win0_14.index t (0 : Fin 2) * 64 + 1 * (j 0).val = (j 0).val; omega
  | ⟨1, _⟩ => show win0_14.index t (1 : Fin 2) * 16 + 1 * (j 1).val = (j 1).val; omega

/-- Every step reads the whole of operand 15 of region 0. -/
theorem whole0_15 (c : Dev nD) (t : Fin cfg0.N) :
    (iblk0 V c 15 t : FVec Ideal S1x16 .f32) = V c main_v16 := by
  have e : win0_15.index t (0 : Fin 2) = 0 ∧ win0_15.index t (1 : Fin 2) = 0 :=
    (by decide +kernel : ∀ t : Fin grid0.N, win0_15.index t (0 : Fin 2) = 0 ∧ win0_15.index t (1 : Fin 2) = 0) t
  obtain ⟨e0, e1⟩ := e
  funext j
  show V c main_v16 (((cfg0.win 15).blk t).view.emb j) = V c main_v16 j
  refine congrArg (V c main_v16) (funext fun a => Fin.ext ?_)
  match a with
  | ⟨0, _⟩ => show win0_15.index t (0 : Fin 2) * 1 + 1 * (j 0).val = (j 0).val; omega
  | ⟨1, _⟩ => show win0_15.index t (1 : Fin 2) * 16 + 1 * (j 1).val = (j 1).val; omega

/-- Every step reads the whole of operand 16 of region 0. -/
theorem whole0_16 (c : Dev nD) (t : Fin cfg0.N) :
    (iblk0 V c 16 t : FVec Ideal S16x64 .f32) = V c main_v17 := by
  have e : win0_16.index t (0 : Fin 2) = 0 ∧ win0_16.index t (1 : Fin 2) = 0 :=
    (by decide +kernel : ∀ t : Fin grid0.N, win0_16.index t (0 : Fin 2) = 0 ∧ win0_16.index t (1 : Fin 2) = 0) t
  obtain ⟨e0, e1⟩ := e
  funext j
  show V c main_v17 (((cfg0.win 16).blk t).view.emb j) = V c main_v17 j
  refine congrArg (V c main_v17) (funext fun a => Fin.ext ?_)
  match a with
  | ⟨0, _⟩ => show win0_16.index t (0 : Fin 2) * 16 + 1 * (j 0).val = (j 0).val; omega
  | ⟨1, _⟩ => show win0_16.index t (1 : Fin 2) * 64 + 1 * (j 1).val = (j 1).val; omega

/-- Every step reads the whole of operand 17 of region 0. -/
theorem whole0_17 (c : Dev nD) (t : Fin cfg0.N) :
    (iblk0 V c 17 t : FVec Ideal S1x64 .f32) = V c main_v18 := by
  have e : win0_17.index t (0 : Fin 2) = 0 ∧ win0_17.index t (1 : Fin 2) = 0 :=
    (by decide +kernel : ∀ t : Fin grid0.N, win0_17.index t (0 : Fin 2) = 0 ∧ win0_17.index t (1 : Fin 2) = 0) t
  obtain ⟨e0, e1⟩ := e
  funext j
  show V c main_v18 (((cfg0.win 17).blk t).view.emb j) = V c main_v18 j
  refine congrArg (V c main_v18) (funext fun a => Fin.ext ?_)
  match a with
  | ⟨0, _⟩ => show win0_17.index t (0 : Fin 2) * 1 + 1 * (j 0).val = (j 0).val; omega
  | ⟨1, _⟩ => show win0_17.index t (1 : Fin 2) * 64 + 1 * (j 1).val = (j 1).val; omega

/-- Every step reads the whole of operand 0 of region 1. -/
theorem whole1_0 (c : Dev nD) (t : Fin cfg1.N) :
    (iblk1 V c 0 t : FVec Ideal S256x64 .f32) = V c main_v20 := by
  have e : win1_0.index t (0 : Fin 2) = 0 ∧ win1_0.index t (1 : Fin 2) = 0 :=
    (by decide +kernel : ∀ t : Fin grid1.N, win1_0.index t (0 : Fin 2) = 0 ∧ win1_0.index t (1 : Fin 2) = 0) t
  obtain ⟨e0, e1⟩ := e
  funext j
  show V c main_v20 (((cfg1.win 0).blk t).view.emb j) = V c main_v20 j
  refine congrArg (V c main_v20) (funext fun a => Fin.ext ?_)
  match a with
  | ⟨0, _⟩ => show win1_0.index t (0 : Fin 2) * 256 + 1 * (j 0).val = (j 0).val; omega
  | ⟨1, _⟩ => show win1_0.index t (1 : Fin 2) * 64 + 1 * (j 1).val = (j 1).val; omega

/-- Every step reads the whole of operand 1 of region 1. -/
theorem whole1_1 (c : Dev nD) (t : Fin cfg1.N) :
    (iblk1 V c 1 t : FVec Ideal S64x128 .f32) = V c main_v21 := by
  have e : win1_1.index t (0 : Fin 2) = 0 ∧ win1_1.index t (1 : Fin 2) = 0 :=
    (by decide +kernel : ∀ t : Fin grid1.N, win1_1.index t (0 : Fin 2) = 0 ∧ win1_1.index t (1 : Fin 2) = 0) t
  obtain ⟨e0, e1⟩ := e
  funext j
  show V c main_v21 (((cfg1.win 1).blk t).view.emb j) = V c main_v21 j
  refine congrArg (V c main_v21) (funext fun a => Fin.ext ?_)
  match a with
  | ⟨0, _⟩ => show win1_1.index t (0 : Fin 2) * 64 + 1 * (j 0).val = (j 0).val; omega
  | ⟨1, _⟩ => show win1_1.index t (1 : Fin 2) * 128 + 1 * (j 1).val = (j 1).val; omega

/-- Every step reads the whole of operand 2 of region 1. -/
theorem whole1_2 (c : Dev nD) (t : Fin cfg1.N) :
    (iblk1 V c 2 t : FVec Ideal S1x128 .f32) = V c main_v22 := by
  have e : win1_2.index t (0 : Fin 2) = 0 ∧ win1_2.index t (1 : Fin 2) = 0 :=
    (by decide +kernel : ∀ t : Fin grid1.N, win1_2.index t (0 : Fin 2) = 0 ∧ win1_2.index t (1 : Fin 2) = 0) t
  obtain ⟨e0, e1⟩ := e
  funext j
  show V c main_v22 (((cfg1.win 2).blk t).view.emb j) = V c main_v22 j
  refine congrArg (V c main_v22) (funext fun a => Fin.ext ?_)
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- Every step reads the whole of operand 3 of region 1. -/
theorem whole1_3 (c : Dev nD) (t : Fin cfg1.N) :
    (iblk1 V c 3 t : FVec Ideal S128x16 .f32) = V c main_v23 := by
  have e : win1_3.index t (0 : Fin 2) = 0 ∧ win1_3.index t (1 : Fin 2) = 0 :=
    (by decide +kernel : ∀ t : Fin grid1.N, win1_3.index t (0 : Fin 2) = 0 ∧ win1_3.index t (1 : Fin 2) = 0) t
  obtain ⟨e0, e1⟩ := e
  funext j
  show V c main_v23 (((cfg1.win 3).blk t).view.emb j) = V c main_v23 j
  refine congrArg (V c main_v23) (funext fun a => Fin.ext ?_)
  match a with
  | ⟨0, _⟩ => show win1_3.index t (0 : Fin 2) * 128 + 1 * (j 0).val = (j 0).val; omega
  | ⟨1, _⟩ => show win1_3.index t (1 : Fin 2) * 16 + 1 * (j 1).val = (j 1).val; omega

/-- Every step reads the whole of operand 4 of region 1. -/
theorem whole1_4 (c : Dev nD) (t : Fin cfg1.N) :
    (iblk1 V c 4 t : FVec Ideal S1x16 .f32) = V c main_v24 := by
  have e : win1_4.index t (0 : Fin 2) = 0 ∧ win1_4.index t (1 : Fin 2) = 0 :=
    (by decide +kernel : ∀ t : Fin grid1.N, win1_4.index t (0 : Fin 2) = 0 ∧ win1_4.index t (1 : Fin 2) = 0) t
  obtain ⟨e0, e1⟩ := e
  funext j
  show V c main_v24 (((cfg1.win 4).blk t).view.emb j) = V c main_v24 j
  refine congrArg (V c main_v24) (funext fun a => Fin.ext ?_)
  match a with
  | ⟨0, _⟩ => show win1_4.index t (0 : Fin 2) * 1 + 1 * (j 0).val = (j 0).val; omega
  | ⟨1, _⟩ => show win1_4.index t (1 : Fin 2) * 16 + 1 * (j 1).val = (j 1).val; omega

end Cert.Proof.K

end
-- ==== Proof.KHost.lean ====
/- What the program prepares for the kernel: each prepared array, at an index, is an entry of an argument. -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Proof.K

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- The images, their pixels in one row. -/
theorem v0_at (c : Dev nD) (b : Fin 256) (k : Fin 200) (y x : Fin 11) :
    (V1 m ρ c main_v0 : FVec Ideal S256x200x121 .f32) (ix3 b k (⟨11 * y.val + x.val, by omega⟩ : Fin 121)) = (arg m c main_arg0 : FVec Ideal S256x200x11x11 .f32) (ix4 b k y x) := by
  show StableHlo.after hostOps0 _ (Proc.devRef .tc main_v0) (ix3 b k (⟨11 * y.val + x.val, by omega⟩ : Fin 121)) = _
  after_results
  pointwise

/-- The first convolution, its taps in one row. -/
theorem v2_at (c : Dev nD) (k : Fin 200) (n : Fin 32) (dy dx : Fin 3) :
    (V1 m ρ c main_v2 : FVec Ideal S9x200x32 .f32) (ix3 (⟨3 * dy.val + dx.val, by omega⟩ : Fin 9) k n) = (arg m c main_arg1 : FVec Ideal S32x200x3x3 .f32) (ix4 n k dy dx) := by
  show StableHlo.after hostOps0 _ (Proc.devRef .tc main_v2) (ix3 (⟨3 * dy.val + dx.val, by omega⟩ : Fin 9) k n) = _
  after_results
  pointwise

/-- The second convolution, its taps in one row. -/
theorem v4_at (c : Dev nD) (k : Fin 32) (n : Fin 64) (dy dx : Fin 3) :
    (V1 m ρ c main_v4 : FVec Ideal S9x32x64 .f32) (ix3 (⟨3 * dy.val + dx.val, by omega⟩ : Fin 9) k n) = (arg m c main_arg3 : FVec Ideal S64x32x3x3 .f32) (ix4 n k dy dx) := by
  show StableHlo.after hostOps0 _ (Proc.devRef .tc main_v4) (ix3 (⟨3 * dy.val + dx.val, by omega⟩ : Fin 9) k n) = _
  after_results
  pointwise

/-- The third convolution, its taps in one row. -/
theorem v6_at (c : Dev nD) (k : Fin 64) (n : Fin 64) (dy dx : Fin 3) :
    (V1 m ρ c main_v6 : FVec Ideal S9x64x64 .f32) (ix3 (⟨3 * dy.val + dx.val, by omega⟩ : Fin 9) k n) = (arg m c main_arg5 : FVec Ideal S64x64x3x3 .f32) (ix4 n k dy dx) := by
  show StableHlo.after hostOps0 _ (Proc.devRef .tc main_v6) (ix3 (⟨3 * dy.val + dx.val, by omega⟩ : Fin 9) k n) = _
  after_results
  pointwise

/-- The first offset. -/
theorem v7_at (c : Dev nD) (n : Fin 32) :
    (V1 m ρ c main_v7 : FVec Ideal S1x32 .f32) (ix2 0 n) = (arg m c main_arg2 : FVec Ideal S32 .f32) (ix1 n) := by
  show StableHlo.after hostOps0 _ (Proc.devRef .tc main_v7) (ix2 0 n) = _
  after_results
  pointwise

/-- The second offset. -/
theorem v8_at (c : Dev nD) (n : Fin 64) :
    (V1 m ρ c main_v8 : FVec Ideal S1x64 .f32) (ix2 0 n) = (arg m c main_arg4 : FVec Ideal S64 .f32) (ix1 n) := by
  show StableHlo.after hostOps0 _ (Proc.devRef .tc main_v8) (ix2 0 n) = _
  after_results
  pointwise

/-- The third offset. -/
theorem v9_at (c : Dev nD) (n : Fin 64) :
    (V1 m ρ c main_v9 : FVec Ideal S1x64 .f32) (ix2 0 n) = (arg m c main_arg6 : FVec Ideal S64 .f32) (ix1 n) := by
  show StableHlo.after hostOps0 _ (Proc.devRef .tc main_v9) (ix2 0 n) = _
  after_results
  pointwise

/-- The offset of the graph step. -/
theorem v10_at (c : Dev nD) (n : Fin 64) :
    (V1 m ρ c main_v10 : FVec Ideal S1x64 .f32) (ix2 0 n) = (arg m c main_arg9 : FVec Ideal S64 .f32) (ix1 n) := by
  show StableHlo.after hostOps0 _ (Proc.devRef .tc main_v10) (ix2 0 n) = _
  after_results
  pointwise

/-- The numerators of the activation. -/
theorem v11_at (c : Dev nD) (i : Fin 3) (n : Fin 64) :
    (V1 m ρ c main_v11 : FVec Ideal S3x64 .f32) (ix2 i n) = (arg m c main_arg10 : FVec Ideal S64x3 .f32) (ix2 n i) := by
  show StableHlo.after hostOps0 _ (Proc.devRef .tc main_v11) (ix2 i n) = _
  after_results
  pointwise

/-- The denominators of the activation. -/
theorem v12_at (c : Dev nD) (i : Fin 2) (n : Fin 64) :
    (V1 m ρ c main_v12 : FVec Ideal S2x64 .f32) (ix2 i n) = (arg m c main_arg11 : FVec Ideal S64x2 .f32) (ix2 n i) := by
  show StableHlo.after hostOps0 _ (Proc.devRef .tc main_v12) (ix2 i n) = _
  after_results
  pointwise

/-- The centres of the bumps. -/
theorem v13_at (c : Dev nD) (j : Fin 9) (n : Fin 64) :
    (V1 m ρ c main_v13 : FVec Ideal S9x64 .f32) (ix2 j n) = (arg m c main_arg12 : FVec Ideal S64x9 .f32) (ix2 n j) := by
  show StableHlo.after hostOps0 _ (Proc.devRef .tc main_v13) (ix2 j n) = _
  after_results
  pointwise

/-- The widths of the bumps. -/
theorem v14_at (c : Dev nD) (j : Fin 9) (n : Fin 64) :
    (V1 m ρ c main_v14 : FVec Ideal S9x64 .f32) (ix2 j n) = (arg m c main_arg13 : FVec Ideal S64x9 .f32) (ix2 n j) := by
  show StableHlo.after hostOps0 _ (Proc.devRef .tc main_v14) (ix2 j n) = _
  after_results
  pointwise

/-- The first matrix of the attention. -/
theorem v15_at (c : Dev nD) (k : Fin 64) (n : Fin 16) :
    (V1 m ρ c main_v15 : FVec Ideal S64x16 .f32) (ix2 k n) = (arg m c main_arg14 : FVec Ideal S16x64 .f32) (ix2 n k) := by
  show StableHlo.after hostOps0 _ (Proc.devRef .tc main_v15) (ix2 k n) = _
  after_results
  pointwise

/-- The first offset of the attention. -/
theorem v16_at (c : Dev nD) (n : Fin 16) :
    (V1 m ρ c main_v16 : FVec Ideal S1x16 .f32) (ix2 0 n) = (arg m c main_arg15 : FVec Ideal S16 .f32) (ix1 n) := by
  show StableHlo.after hostOps0 _ (Proc.devRef .tc main_v16) (ix2 0 n) = _
  after_results
  pointwise

/-- The second matrix of the attention. -/
theorem v17_at (c : Dev nD) (k : Fin 16) (n : Fin 64) :
    (V1 m ρ c main_v17 : FVec Ideal S16x64 .f32) (ix2 k n) = (arg m c main_arg16 : FVec Ideal S64x16 .f32) (ix2 n k) := by
  show StableHlo.after hostOps0 _ (Proc.devRef .tc main_v17) (ix2 k n) = _
  after_results
  pointwise

/-- The second offset of the attention. -/
theorem v18_at (c : Dev nD) (n : Fin 64) :
    (V1 m ρ c main_v18 : FVec Ideal S1x64 .f32) (ix2 0 n) = (arg m c main_arg17 : FVec Ideal S64 .f32) (ix1 n) := by
  show StableHlo.after hostOps0 _ (Proc.devRef .tc main_v18) (ix2 0 n) = _
  after_results
  pointwise

/-- A matrix of the graph step is an argument. -/
theorem arg7_at (c : Dev nD) : V1 m ρ c main_arg7 = arg m c main_arg7 :=
  W1_args m ρ c main_arg7 (by decide)

/-- A matrix of the graph step is an argument. -/
theorem arg8_at (c : Dev nD) : V1 m ρ c main_arg8 = arg m c main_arg8 :=
  W1_args m ρ c main_arg8 (by decide)

/-- The first matrix of the head. -/
theorem v21_at (c : Dev nD) (k : Fin 64) (n : Fin 128) :
    (V3 m ρ c main_v21 : FVec Ideal S64x128 .f32) (ix2 k n) = (arg m c main_arg18 : FVec Ideal S128x64 .f32) (ix2 n k) := by
  show StableHlo.after hostOps1 _ (Proc.devRef .tc main_v21) (ix2 k n) = _
  after_results
  rw [W2_args m ρ c main_arg18 (by decide)]
  pointwise

/-- The first offset of the head. -/
theorem v22_at (c : Dev nD) (n : Fin 128) :
    (V3 m ρ c main_v22 : FVec Ideal S1x128 .f32) (ix2 0 n) = (arg m c main_arg19 : FVec Ideal S128 .f32) (ix1 n) := by
  show StableHlo.after hostOps1 _ (Proc.devRef .tc main_v22) (ix2 0 n) = _
  after_results
  rw [W2_args m ρ c main_arg19 (by decide)]
  pointwise

/-- The second matrix of the head. -/
theorem v23_at (c : Dev nD) (k : Fin 128) (n : Fin 16) :
    (V3 m ρ c main_v23 : FVec Ideal S128x16 .f32) (ix2 k n) = (arg m c main_arg20 : FVec Ideal S16x128 .f32) (ix2 n k) := by
  show StableHlo.after hostOps1 _ (Proc.devRef .tc main_v23) (ix2 k n) = _
  after_results
  rw [W2_args m ρ c main_arg20 (by decide)]
  pointwise

/-- The second offset of the head. -/
theorem v24_at (c : Dev nD) (n : Fin 16) :
    (V3 m ρ c main_v24 : FVec Ideal S1x16 .f32) (ix2 0 n) = (arg m c main_arg21 : FVec Ideal S16 .f32) (ix1 n) := by
  show StableHlo.after hostOps1 _ (Proc.devRef .tc main_v24) (ix2 0 n) = _
  after_results
  rw [W2_args m ρ c main_arg21 (by decide)]
  pointwise

/-- The head reads the channels the first region left, one row for each image. -/
theorem v20_at (c : Dev nD) (b : Fin 256) (n : Fin 64) :
    (V3 m ρ c main_v20 : FVec Ideal S256x64 .f32) (ix2 b n)
      = (W2 m ρ c (Proc.devRef .tc main_v19) : FVec Ideal S256x1x64 .f32) (ix3 b 0 n) := by
  show StableHlo.after hostOps1 _ (Proc.devRef .tc main_v20) (ix2 b n) = _
  after_results
  pointwise

end Cert.Proof.K

end
-- ==== Proof.Whole.lean ====
/- The whole computation as a function of the arguments: for one image, its tokens, its pooled channels, its scores. -/
module

public import proofs.«01_k».proof.Proof.Spec
public import proofs.«01_k».proof.Proof.NeighbourLaw
public import Idealize.ShloMosaic.Lib.Pointwise

@[expose] public section

noncomputable section

namespace Cert.Spec

open Idealize.ShloMosaic

variable (a0 : FVec Ideal ⟨4, ![256, 200, 11, 11]⟩ .f32) (a1 : FVec Ideal ⟨4, ![32, 200, 3, 3]⟩ .f32)
  (a2 : FVec Ideal ⟨1, ![32]⟩ .f32) (a3 : FVec Ideal ⟨4, ![64, 32, 3, 3]⟩ .f32) (a4 : FVec Ideal ⟨1, ![64]⟩ .f32)
  (a5 : FVec Ideal ⟨4, ![64, 64, 3, 3]⟩ .f32) (a6 : FVec Ideal ⟨1, ![64]⟩ .f32) (a7 a8 : FVec Ideal ⟨2, ![64, 64]⟩ .f32)
  (a9 : FVec Ideal ⟨1, ![64]⟩ .f32) (a10 : FVec Ideal ⟨2, ![64, 3]⟩ .f32) (a11 : FVec Ideal ⟨2, ![64, 2]⟩ .f32)
  (a12 a13 : FVec Ideal ⟨2, ![64, 9]⟩ .f32) (a14 : FVec Ideal ⟨2, ![16, 64]⟩ .f32) (a15 : FVec Ideal ⟨1, ![16]⟩ .f32)
  (a16 : FVec Ideal ⟨2, ![64, 16]⟩ .f32) (a17 : FVec Ideal ⟨1, ![64]⟩ .f32) (a18 : FVec Ideal ⟨2, ![128, 64]⟩ .f32)
  (a19 : FVec Ideal ⟨1, ![128]⟩ .f32) (a20 : FVec Ideal ⟨2, ![16, 128]⟩ .f32) (a21 : FVec Ideal ⟨1, ![16]⟩ .f32)

/-- The tokens of image `b`. -/
def imageTokens (b : Fin 256) : Fin 121 → Fin 64 → EReal :=
  tokens (fun y x k => a0 (ix4 b k y x)) (fun n k dy dx => a1 (ix4 n k dy dx)) (fun n => a2 (ix1 n))
    (fun n k dy dx => a3 (ix4 n k dy dx)) (fun n => a4 (ix1 n)) (fun n k dy dx => a5 (ix4 n k dy dx)) (fun n => a6 (ix1 n))

/-- The pooled channels of image `b`, given the nearest tokens of each of its tokens. -/
def imagePooled (b : Fin 256) (e : Fin 121 → Fin 9 → Fin 121) (n : Fin 64) : EReal :=
  pooled (imageTokens a0 a1 a2 a3 a4 a5 a6 b) (fun i j => near (e i) (Ranked.at128 j)) (fun k n => a7 (ix2 k n))
    (fun k n => a8 (ix2 k n)) (fun n => a9 (ix1 n)) (fun n i => a10 (ix2 n i)) (fun n i => a11 (ix2 n i))
    (fun n j => a12 (ix2 n j)) (fun n j => a13 (ix2 n j)) (fun m k => a14 (ix2 m k)) (fun m => a15 (ix1 m))
    (fun n m => a16 (ix2 n m)) (fun n => a17 (ix1 n)) n

/-- The scores of image `b`. -/
def imageScores (b : Fin 256) (e : Fin 121 → Fin 9 → Fin 121) (o : Fin 16) : EReal :=
  head (fun m k => a18 (ix2 m k)) (fun m => a19 (ix1 m)) (fun o m => a20 (ix2 o m)) (fun o => a21 (ix1 o))
    (imagePooled a0 a1 a2 a3 a4 a5 a6 a7 a8 a9 a10 a11 a12 a13 a14 a15 a16 a17 b e) o

end Cert.Spec

end
-- ==== Proof.KRegions.lean ====
/- What the kernel's two regions leave: the pooled channels of every image, then the scores of every image. -/
module

public import proofs.«01_k».proof.Proof.KBlock
public import proofs.«01_k».proof.Proof.KReads
public import proofs.«01_k».proof.Proof.KHost
public import proofs.«01_k».proof.Proof.Whole

@[expose] public section

set_option maxRecDepth 16384

noncomputable section

namespace Cert.Proof.K

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The tokens of image `b` of the launched images. -/
abbrev launchTokens (b : Fin 256) : Fin 121 → Fin 64 → EReal :=
  Spec.imageTokens (arg m c main_arg0) (arg m c main_arg1) (arg m c main_arg2) (arg m c main_arg3) (arg m c main_arg4)
    (arg m c main_arg5) (arg m c main_arg6) b

/-- The pooled channels of image `b` of the launched images. -/
abbrev launchPooled (b : Fin 256) (e : Fin 121 → Fin 9 → Fin 121) (n : Fin 64) : EReal :=
  Spec.imagePooled (arg m c main_arg0) (arg m c main_arg1) (arg m c main_arg2) (arg m c main_arg3) (arg m c main_arg4)
    (arg m c main_arg5) (arg m c main_arg6) (arg m c main_arg7) (arg m c main_arg8) (arg m c main_arg9) (arg m c main_arg10)
    (arg m c main_arg11) (arg m c main_arg12) (arg m c main_arg13) (arg m c main_arg14) (arg m c main_arg15)
    (arg m c main_arg16) (arg m c main_arg17) b e n

/-- The scores of image `b` of the launched images. -/
abbrev launchScores (b : Fin 256) (e : Fin 121 → Fin 9 → Fin 121) (o : Fin 16) : EReal :=
  Spec.imageScores (arg m c main_arg0) (arg m c main_arg1) (arg m c main_arg2) (arg m c main_arg3) (arg m c main_arg4)
    (arg m c main_arg5) (arg m c main_arg6) (arg m c main_arg7) (arg m c main_arg8) (arg m c main_arg9) (arg m c main_arg10)
    (arg m c main_arg11) (arg m c main_arg12) (arg m c main_arg13) (arg m c main_arg14) (arg m c main_arg15)
    (arg m c main_arg16) (arg m c main_arg17) (arg m c main_arg18) (arg m c main_arg19) (arg m c main_arg20)
    (arg m c main_arg21) b e o

/-- The tokens a step computes are those of its images. -/
theorem tokens_launch (t : Fin cfg0.N) (s : Fin 32) :
    tokensOf (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) (iblk0 (V1 m ρ) c 6 t) s
      = launchTokens m c (batch t s) := by
  have h0 : image (iblk0 (V1 m ρ) c 0 t) s = fun y x k => (arg m c main_arg0 : FVec Ideal S256x200x11x11 .f32) (ix4 (batch t s) k y x) :=
    funext fun y => funext fun x => funext fun k => (block_images (V1 m ρ) c t s k _).trans (v0_at m ρ c (batch t s) k y x)
  have h1 : Spec.taps (iblk0 (V1 m ρ) c 1 t : FVec Ideal S9x200x32 .f32) = fun n k dy dx => (arg m c main_arg1 : FVec Ideal S32x200x3x3 .f32) (ix4 n k dy dx) := by
    rw [whole0_1]
    exact funext fun n => funext fun k => funext fun dy => funext fun dx => v2_at m ρ c k n dy dx
  have h3 : Spec.taps (iblk0 (V1 m ρ) c 3 t : FVec Ideal S9x32x64 .f32) = fun n k dy dx => (arg m c main_arg3 : FVec Ideal S64x32x3x3 .f32) (ix4 n k dy dx) := by
    rw [whole0_3]
    exact funext fun n => funext fun k => funext fun dy => funext fun dx => v4_at m ρ c k n dy dx
  have h5 : Spec.taps (iblk0 (V1 m ρ) c 5 t : FVec Ideal S9x64x64 .f32) = fun n k dy dx => (arg m c main_arg5 : FVec Ideal S64x64x3x3 .f32) (ix4 n k dy dx) := by
    rw [whole0_5]
    exact funext fun n => funext fun k => funext fun dy => funext fun dx => v6_at m ρ c k n dy dx
  have h2 : (fun n => (iblk0 (V1 m ρ) c 2 t : FVec Ideal S1x32 .f32) (ix2 0 n)) = fun n => (arg m c main_arg2 : FVec Ideal S32 .f32) (ix1 n) := by
    rw [whole0_2]; exact funext fun n => v7_at m ρ c n
  have h4 : (fun n => (iblk0 (V1 m ρ) c 4 t : FVec Ideal S1x64 .f32) (ix2 0 n)) = fun n => (arg m c main_arg4 : FVec Ideal S64 .f32) (ix1 n) := by
    rw [whole0_4]; exact funext fun n => v8_at m ρ c n
  have h6 : (fun n => (iblk0 (V1 m ρ) c 6 t : FVec Ideal S1x64 .f32) (ix2 0 n)) = fun n => (arg m c main_arg6 : FVec Ideal S64 .f32) (ix1 n) := by
    rw [whole0_6]; exact funext fun n => v9_at m ρ c n
  unfold tokensOf launchTokens Spec.imageTokens
  rw [h0, h1, h2, h3, h4, h5, h6]

variable (e : Fin 256 → Fin 121 → Fin 9 → Fin 121)

/-- What a step leaves in its block: the pooled channels of its images. -/
theorem step_launch (t : Fin cfg0.N) (s : Fin 32) (n : Fin 64)
    (he : ∀ i, Spec.Ranked (Spec.dist (launchTokens m c (batch t s)) i) (e (batch t s) i)) :
    step (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) (iblk0 (V1 m ρ) c 6 t) (iblk0 (V1 m ρ) c 7 t)
        (iblk0 (V1 m ρ) c 8 t) (iblk0 (V1 m ρ) c 9 t) (iblk0 (V1 m ρ) c 10 t) (iblk0 (V1 m ρ) c 11 t)
        (iblk0 (V1 m ρ) c 12 t) (iblk0 (V1 m ρ) c 13 t) (iblk0 (V1 m ρ) c 14 t) (iblk0 (V1 m ρ) c 15 t)
        (iblk0 (V1 m ρ) c 16 t) (iblk0 (V1 m ρ) c 17 t) (ix3 s 0 n)
      = launchPooled m c (batch t s) (e (batch t s)) n := by
  have hT := tokens_launch m ρ c t s
  refine (step_eq _ _ _ _ _ _ _ _ _ _ _ _ _ _ _ _ _ _ s (e (batch t s)) (by rw [hT]; exact he) n).trans ?_
  rw [hT, whole0_7, whole0_8, whole0_9, whole0_10, whole0_11, whole0_12, whole0_13, whole0_14, whole0_15, whole0_16,
    whole0_17, arg7_at, arg8_at]
  unfold launchPooled Spec.imagePooled
  congr 1
  · exact funext fun n => v10_at m ρ c n
  · exact funext fun n => funext fun i => v11_at m ρ c i n
  · exact funext fun n => funext fun i => v12_at m ρ c i n
  · exact funext fun n => funext fun j => v13_at m ρ c j n
  · exact funext fun n => funext fun j => v14_at m ρ c j n
  · exact funext fun k => funext fun n => v15_at m ρ c n k
  · exact funext fun n => v16_at m ρ c n
  · exact funext fun n => funext fun k => v17_at m ρ c k n
  · exact funext fun n => v18_at m ρ c n

/-- The array of the pooled channels of all images. -/
def pooledArray : FVec Ideal S256x1x64 .f32 := fun i => launchPooled m c (i 0) (e (i 0)) (i 2)

/-- What a step writes back is its part of that array. -/
theorem flushed0 (he : ∀ b i, Spec.Ranked (Spec.dist (launchTokens m c b) i) (e b i)) (t : Fin cfg0.N) :
    (dat0 (V1 m ρ) c).flushed 18 t = ((cfg0.win 18).blk t).view.read (Elt Ideal) (pooledArray m c e) := by
  show (cfg0.win 18).cut (grid0.coords t) ((dat0 (V1 m ρ) c).after 18 t) = _
  rw [after0_18, out_eq_step]
  have i0 : win0_18.index t (0 : Fin 3) = t.val ∧ win0_18.index t (1 : Fin 3) = 0 ∧ win0_18.index t (2 : Fin 3) = 0 := by
    rcases fin_N0 t with rfl | rfl | rfl | rfl | rfl | rfl | rfl | rfl <;> decide +kernel
  obtain ⟨e0, e1, e2⟩ := i0
  funext j
  have hb : ((cfg0.win 18).blk t).view.emb j = (ix3 (batch t (j 0)) 0 (j 2) : S256x1x64.Idx) := by
    have h1 : (j 1).val < 1 := (j 1).isLt
    funext a
    apply Fin.ext
    match a with
    | ⟨0, _⟩ => show win0_18.index t (0 : Fin 3) * 32 + 1 * (j 0).val = 32 * t.val + (j 0).val; omega
    | ⟨1, _⟩ => show win0_18.index t (1 : Fin 3) * 1 + 1 * (j 1).val = 0; omega
    | ⟨2, _⟩ => show win0_18.index t (2 : Fin 3) * 64 + 1 * (j 2).val = (j 2).val; omega
  have hj : j = (ix3 (j 0) 0 (j 2) : S32x1x64.Idx) := by
    have h1 : (j 1).val < 1 := (j 1).isLt
    funext a
    match a with
    | ⟨0, _⟩ => rfl
    | ⟨1, _⟩ => exact Fin.ext (show (j 1).val = 0 by omega)
    | ⟨2, _⟩ => rfl
  rw [View.read_apply]
  show step _ _ _ _ _ _ _ _ _ _ _ _ _ _ _ _ _ _ j = pooledArray m c e (((cfg0.win 18).blk t).view.emb j)
  rw [hb]
  refine (congrArg _ hj).trans ?_
  exact step_launch m ρ c e t (j 0) (j 2) (he _)

/-- Every index of the array is in some step's block. -/
theorem cover0 (i : S256x1x64.Idx) : ∃ t : Fin cfg0.N, (cfg0.win 18).flush t = true ∧ i ∈ ((cfg0.win 18).blk t).view.set := by
  have h0 : (i 0).val < 256 := (i 0).isLt
  have h1 : (i 1).val < 1 := (i 1).isLt
  have h2 : (i 2).val < 64 := (i 2).isLt
  have hN : cfg0.N = 8 := N_0
  have ht : (i 0).val / 32 < cfg0.N := by omega
  refine ⟨⟨(i 0).val / 32, ht⟩, flush0_18 _, ?_⟩
  generalize htt : (⟨(i 0).val / 32, ht⟩ : Fin cfg0.N) = t
  have hv : t.val = (i 0).val / 32 := by rw [← htt]
  have i0 : win0_18.index t (0 : Fin 3) = t.val ∧ win0_18.index t (1 : Fin 3) = 0 ∧ win0_18.index t (2 : Fin 3) = 0 := by
    clear hv htt
    rcases fin_N0 t with rfl | rfl | rfl | rfl | rfl | rfl | rfl | rfl <;> decide +kernel
  obtain ⟨e0, e1, e2⟩ := i0
  have : i = ((cfg0.win 18).blk t).view.emb (ix3 (⟨(i 0).val % 32, by omega⟩ : Fin 32) (0 : Fin 1) (i 2) : S32x1x64.Idx) := by
    funext a
    apply Fin.ext
    match a with
    | ⟨0, _⟩ => show (i 0).val = win0_18.index t (0 : Fin 3) * 32 + 1 * ((i 0).val % 32); omega
    | ⟨1, _⟩ => show (i 1).val = win0_18.index t (1 : Fin 3) * 1 + 1 * 0; omega
    | ⟨2, _⟩ => show (i 2).val = win0_18.index t (2 : Fin 3) * 64 + 1 * (i 2).val; omega
  rw [this]
  exact ((cfg0.win 18).blk t).view.emb_mem_set _

/-- The first region leaves the pooled channels of all images. -/
theorem region0 (he : ∀ b i, Spec.Ranked (Spec.dist (launchTokens m c b) i) (e b i)) :
    W2 m ρ c (Proc.devRef .tc main_v19) = pooledArray m c e :=
  (W2_arr m ρ c 18).trans ((dat0 (V1 m ρ) c).arrAt_eq_of_cover 18 (pooledArray m c e) (fun t _ => flushed0 m ρ c e he t) cover0)

/-- The array of the scores of all images. -/
def scoresArray : FVec Ideal S256x16 .f32 := fun i => launchScores m c (i 0) (e (i 0)) (i 1)

/-- What the head leaves in its block. -/
theorem head_launch (he : ∀ b i, Spec.Ranked (Spec.dist (launchTokens m c b) i) (e b i)) (t : Fin cfg1.N) (b : Fin 256)
    (o : Fin 16) :
    out1_5 (F := Ideal) (iblk1 (V3 m ρ) c 0 t) (iblk1 (V3 m ρ) c 1 t) (iblk1 (V3 m ρ) c 2 t) (iblk1 (V3 m ρ) c 3 t)
        (iblk1 (V3 m ρ) c 4 t) (ix2 b o)
      = launchScores m c b (e b) o := by
  refine (head_eq _ _ _ _ _ b o).trans ?_
  rw [whole1_0, whole1_1, whole1_2, whole1_3, whole1_4]
  unfold launchScores Spec.imageScores
  have h0 : ∀ n : Fin 64, (V3 m ρ c main_v20 : FVec Ideal S256x64 .f32) (ix2 b n) = launchPooled m c b (e b) n := fun n =>
    (v20_at m ρ c b n).trans (congrFun (region0 m ρ c e he) (ix3 b 0 n))
  congr 1
  · exact funext fun n => funext fun k => v21_at m ρ c k n
  · exact funext fun n => v22_at m ρ c n
  · exact funext fun n => funext fun k => v23_at m ρ c k n
  · exact funext fun n => v24_at m ρ c n
  · exact funext h0

/-- What the head writes back is the array of the scores. -/
theorem flushed1 (he : ∀ b i, Spec.Ranked (Spec.dist (launchTokens m c b) i) (e b i)) (t : Fin cfg1.N) :
    (dat1 (V3 m ρ) c).flushed 5 t = ((cfg1.win 5).blk t).view.read (Elt Ideal) (scoresArray m c e) := by
  show (cfg1.win 5).cut (Cert.KernelIdeal.grid1.coords t) ((dat1 (V3 m ρ) c).after 5 t) = _
  rw [after1_5]
  have i0 : win1_5.index t (0 : Fin 2) = 0 ∧ win1_5.index t (1 : Fin 2) = 0 :=
    (by decide +kernel : ∀ t : Fin Cert.KernelIdeal.grid1.N, win1_5.index t (0 : Fin 2) = 0 ∧ win1_5.index t (1 : Fin 2) = 0) t
  obtain ⟨e0, e1⟩ := i0
  funext j
  have hb : ((cfg1.win 5).blk t).view.emb j = (ix2 (j 0) (j 1) : S256x16.Idx) := by
    funext a
    apply Fin.ext
    match a with
    | ⟨0, _⟩ => show win1_5.index t (0 : Fin 2) * 256 + 1 * (j 0).val = (j 0).val; omega
    | ⟨1, _⟩ => show win1_5.index t (1 : Fin 2) * 16 + 1 * (j 1).val = (j 1).val; omega
  have hj : j = (ix2 (j 0) (j 1) : S256x16.Idx) := by
    funext a
    match a with
    | ⟨0, _⟩ => rfl
    | ⟨1, _⟩ => rfl
  rw [View.read_apply]
  show out1_5 (F := Ideal) _ _ _ _ _ j = scoresArray m c e (((cfg1.win 5).blk t).view.emb j)
  rw [hb]
  refine (congrArg _ hj).trans ?_
  exact head_launch m ρ c e he t (j 0) (j 1)

/-- The one block of the head is the whole array. -/
theorem cover1 (i : S256x16.Idx) : ∃ t : Fin cfg1.N, (cfg1.win 5).flush t = true ∧ i ∈ ((cfg1.win 5).blk t).view.set := by
  have hN : cfg1.N = 1 := N_1
  have ht : 0 < cfg1.N := by omega
  refine ⟨⟨0, ht⟩, flush1_5 _, ?_⟩
  generalize (⟨0, ht⟩ : Fin cfg1.N) = t
  have i0 : win1_5.index t (0 : Fin 2) = 0 ∧ win1_5.index t (1 : Fin 2) = 0 :=
    (by decide +kernel : ∀ t : Fin Cert.KernelIdeal.grid1.N, win1_5.index t (0 : Fin 2) = 0 ∧ win1_5.index t (1 : Fin 2) = 0) t
  obtain ⟨e0, e1⟩ := i0
  have : i = ((cfg1.win 5).blk t).view.emb (ix2 (i 0) (i 1) : S256x16.Idx) := by
    funext a
    apply Fin.ext
    match a with
    | ⟨0, _⟩ => show (i 0).val = win1_5.index t (0 : Fin 2) * 256 + 1 * (i 0).val; omega
    | ⟨1, _⟩ => show (i 1).val = win1_5.index t (1 : Fin 2) * 16 + 1 * (i 1).val; omega
  rw [this]
  exact ((cfg1.win 5).blk t).view.emb_mem_set _

/-- The second region leaves the scores of all images. -/
theorem region1 (he : ∀ b i, Spec.Ranked (Spec.dist (launchTokens m c b) i) (e b i)) :
    W4 m ρ c (Proc.devRef .tc main_v25) = scoresArray m c e :=
  (W4_arr m ρ c 5).trans ((dat1 (V3 m ρ) c).arrAt_eq_of_cover 5 (scoresArray m c e) (fun t _ => flushed1 m ρ c e he t) cover1)

end Cert.Proof.K

end
-- ==== Proof.KRun.lean ====
/- The kernel's run with its result: the scores array holds what the second region leaves, the arguments are unchanged. -/
module

public import proofs.«01_k».proof.Proof.Gen.KernelIdeal.Frame

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run from launch ends with the scores array holding the second region's result and the arguments as launched. -/
theorem run : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c)⟩)

end Cert.Proof.K

end
-- ==== Proof.TopLaw.lean ====
/- The greatest entries of each row, in order: what a stable sort of a row by "greater" lists, and when the list ranks the
   row's distances. -/
module

public import proofs.«01_k».proof.Proof.NeighbourLaw
public import Idealize.ShloMosaic.Lib.Pointwise
public import Idealize.ShloMosaic.Lib.SortFacts

@[expose] public section

set_option maxRecDepth 16384

noncomputable section

namespace Cert.Spec

open Idealize.ShloMosaic

/-- The rows of all images' tokens. -/
abbrev Rows : Shape := ⟨3, ![256, 121, 121]⟩

/-- Whether one entry of a row comes before another: it is greater. -/
def before (x : FVec Ideal Rows .f32) (b : Fin 256) (i : Fin 121) (k k' : Fin 121) : Bool :=
  FloatOps.cmpfTotal .gt (x (ix3 b i k)) (x (ix3 b i k')) == 1#1

/-- The positions of a row, the greatest entry's first. -/
def order (x : FVec Ideal Rows .f32) (b : Fin 256) (i : Fin 121) (s : Fin 121) : Fin 121 := sortedFrom (before x b i) s

theorem before_iff (x : FVec Ideal Rows .f32) (b : Fin 256) (i k k' : Fin 121) :
    before x b i k k' = true ↔ x (ix3 b i k') < x (ix3 b i k) := by
  have h : before x b i k k' = (BitVec.ofBool (decide (x (ix3 b i k') < x (ix3 b i k))) == 1#1) := rfl
  rw [h]
  by_cases hlt : x (ix3 b i k') < x (ix3 b i k) <;> simp [hlt]

/-- Later entries of the order are not greater. -/
theorem order_le (x : FVec Ideal Rows .f32) (b : Fin 256) (i : Fin 121) (s t : Fin 121) (h : s < t) :
    x (ix3 b i (order x b i t)) ≤ x (ix3 b i (order x b i s)) := by
  have hf : ∀ k k', before x b i k k' = false ↔ x (ix3 b i k) ≤ x (ix3 b i k') := fun k k' => by
    rw [← Bool.not_eq_true, before_iff, not_lt]
  have hn : before x b i (order x b i t) (order x b i s) = false :=
    sortedFrom_noInversion (before x b i) (before x b i)
      (fun a c hac => (hf c a).mpr ((before_iff x b i a c).mp hac).le) (fun _ _ h => h)
      (fun a c d hac hcd => (hf a d).mpr (((hf a c).mp hac).trans ((hf c d).mp hcd))) s t h
  exact (hf _ _).mp hn

/-- Every position is in the order. -/
theorem order_all (x : FVec Ideal Rows .f32) (b : Fin 256) (i : Fin 121) (j : Fin 121) : ∃ u, order x b i u = j :=
  sortedFrom_surjective (before x b i) j

/-- The first nine positions of the order. -/
def firstNine (x : FVec Ideal Rows .f32) (b : Fin 256) (i : Fin 121) (s : Fin 9) : Fin 121 :=
  order x b i ⟨s.val, by omega⟩

/-- When the first ten entries fall strictly, the first nine positions rank the distances the entries are the negatives of. -/
theorem ranked (x : FVec Ideal Rows .f32) (b : Fin 256) (i : Fin 121) (d : Fin 121 → EReal)
    (hd : ∀ j, x (ix3 b i j) = -(d j))
    (hs : ∀ s : Fin 9, x (ix3 b i (order x b i ⟨s.val + 1, by omega⟩)) < x (ix3 b i (order x b i ⟨s.val, by omega⟩))) :
    Ranked d (firstNine x b i) := by
  have hx : ∀ j k, x (ix3 b i j) < x (ix3 b i k) → d k < d j := fun j k h => by
    rw [hd, hd] at h
    exact EReal.neg_lt_neg_iff.mp h
  have fall : ∀ (s : Fin 9) (t : Fin 121), s.val < t.val →
      x (ix3 b i (order x b i t)) < x (ix3 b i (firstNine x b i s)) := by
    intro s t hst
    refine lt_of_le_of_lt ?_ (hs s)
    rcases Nat.lt_or_ge (s.val + 1) t.val with h | h
    · exact order_le x b i ⟨s.val + 1, by omega⟩ t h
    · have : t = ⟨s.val + 1, by omega⟩ := Fin.ext (by show t.val = s.val + 1; omega)
      rw [this]
  constructor
  · intro s t hst
    exact hx _ _ (fall s ⟨t.val, by omega⟩ hst)
  · intro j hj t
    obtain ⟨u, rfl⟩ := order_all x b i j
    have hu : 9 ≤ u.val := by
      by_contra h
      exact hj ⟨u.val, by omega⟩ rfl
    exact hx _ _ (fall t u (by omega))

theorem along_row (b : Fin 256) (i s k : Fin 121) :
    (ix3 b i s : Rows.Idx).along (2 : Fin 3) k = ix3 b i k := by
  funext a
  match a with
  | ⟨0, _⟩ => exact Function.update_of_ne (fun h => absurd (congrArg Fin.val h) (by norm_num)) _ _
  | ⟨1, _⟩ => exact Function.update_of_ne (fun h => absurd (congrArg Fin.val h) (by norm_num)) _ _
  | ⟨2, _⟩ => exact Function.update_self _ _ _

/-- A sorted row, with what is carried along. -/
theorem sorted_row {β : Type} (x : FVec Ideal Rows .f32) (y : Rows.Idx → β) (b : Fin 256) (i s : Fin 121) :
    (Host.sort2 Rows 2 (fun l r => FloatOps.cmpfTotal .gt l.1 r.1) x y).1 (ix3 b i s) = x (ix3 b i (order x b i s))
    ∧ (Host.sort2 Rows 2 (fun l r => FloatOps.cmpfTotal .gt l.1 r.1) x y).2 (ix3 b i s) = y (ix3 b i (order x b i s)) := by
  have hs : sortedFrom (fun k k' : Fin 121 => FloatOps.cmpfTotal .gt (x ((ix3 b i s : Rows.Idx).along (2 : Fin 3) k))
      (x ((ix3 b i s : Rows.Idx).along (2 : Fin 3) k')) == 1#1) s = order x b i s := by
    simp only [along_row]
    rfl
  unfold Host.sort2
  rw [dif_pos (by decide)]
  exact ⟨(congrArg x (along_row b i s _)).trans (congrArg (fun k => x (ix3 b i k)) hs),
    (congrArg y (along_row b i s _)).trans (congrArg (fun k => y (ix3 b i k)) hs)⟩

/-- The start of a row, where it is cut. -/
theorem cut_row {β : Type} (T : ℕ) (hT : T ≤ 121) (y : Rows.Idx → β) (h : Rows.Slices (fun _ => 0) ⟨3, ![256, 121, T]⟩)
    (b : Fin 256) (i : Fin 121) (s : Fin T) :
    extractStridedSlice ⟨3, ![256, 121, T]⟩ (fun _ => 0) y h (ix3 b i s) = y (ix3 b i ⟨s.val, by omega⟩) := by
  refine extractStridedSlice_apply _ y h _ _ fun a => ?_
  match a with
  | ⟨0, _⟩ => exact (Nat.zero_add _).symm
  | ⟨1, _⟩ => exact (Nat.zero_add _).symm
  | ⟨2, _⟩ => exact (Nat.zero_add _).symm

/-- The greatest entries of a row, listed. -/
theorem top_values (T : ℕ) (hT : T ≤ 121) (x : FVec Ideal Rows .f32) (h : Rows.Slices (fun _ => 0) ⟨3, ![256, 121, T]⟩)
    (b : Fin 256) (i : Fin 121) (s : Fin T) :
    (Host.topK ⟨3, ![256, 121, T]⟩ 2 (FloatOps.cmpfTotal .gt) x h).1 (ix3 b i s)
      = x (ix3 b i (order x b i ⟨s.val, by omega⟩)) :=
  (cut_row T hT (Host.sort2 Rows 2 (fun l r => FloatOps.cmpfTotal .gt l.1 r.1) x (iotaInDim Rows 32 2)).1 h b i s).trans
    (sorted_row x (iotaInDim Rows 32 2) b i _).1

/-- The positions of the greatest entries of a row, listed. -/
theorem top_positions (T : ℕ) (hT : T ≤ 121) (x : FVec Ideal Rows .f32) (h : Rows.Slices (fun _ => 0) ⟨3, ![256, 121, T]⟩)
    (b : Fin 256) (i : Fin 121) (s : Fin T) :
    (Host.topK ⟨3, ![256, 121, T]⟩ 2 (FloatOps.cmpfTotal .gt) x h).2 (ix3 b i s)
      = BitVec.ofNat 32 (order x b i ⟨s.val, by omega⟩).val :=
  (cut_row T hT (Host.sort2 Rows 2 (fun l r => FloatOps.cmpfTotal .gt l.1 r.1) x (iotaInDim Rows 32 2)).2 h b i s).trans
    (sorted_row x (iotaInDim Rows 32 2) b i _).2

end Cert.Spec

end
-- ==== Proof.RConv.lean ====
/- What the reference's three convolution layers compute: the tokens of every image. -/
module

public import proofs.«01_k».proof.Proof.Gen.ReferenceIdeal.Read
public import proofs.«01_k».proof.Proof.Whole
public import Idealize.ShloMosaic.Lib.Pointwise

@[expose] public section

set_option maxRecDepth 16384

noncomputable section

namespace Cert.Proof.R

open Idealize.ShloMosaic Cert.ReferenceIdeal Cert.ReferenceIdeal.Gen Cert.ReferenceIdeal.Read

variable (x0 : FVec Ideal S256x200x11x11 .f32) (x1 : FVec Ideal S32x200x3x3 .f32) (x2 : FVec Ideal S32 .f32)
  (x3 : FVec Ideal S64x32x3x3 .f32) (x4 : FVec Ideal S64 .f32) (x5 : FVec Ideal S64x64x3x3 .f32) (x6 : FVec Ideal S64 .f32)

/-- The launched image `b` as a map of channels. -/
def grid0 (b : Fin 256) : Spec.Grid 200 := fun y x k => x0 (ix4 b k y x)

/-- The map after the first layer. -/
def grid1 (b : Fin 256) : Spec.Grid 32 := Spec.layer (grid0 x0 b) (fun n k dy dx => x1 (ix4 n k dy dx)) (fun n => x2 (ix1 n))

/-- The map after the second layer. -/
def grid2 (b : Fin 256) : Spec.Grid 64 :=
  Spec.layer (grid1 x0 x1 x2 b) (fun n k dy dx => x3 (ix4 n k dy dx)) (fun n => x4 (ix1 n))

/-- The map after the third layer. -/
def grid3 (b : Fin 256) : Spec.Grid 64 :=
  Spec.layer (grid2 x0 x1 x2 x3 x4 b) (fun n k dy dx => x5 (ix4 n k dy dx)) (fun n => x6 (ix1 n))

/-- The first layer's input with its border of zeros. -/
theorem pad0 (b : Fin 256) (u v : Fin 13) (k : Fin 200) :
    val_main_v1 (F := Ideal) x0 (ix4 b u v k) = Spec.padAt (grid0 x0 b) u v k := by
  pointwise [val_main_v1, val_main_v0, val_main_cst]
  unfold Spec.padAt
  by_cases h : (1 ≤ u.val ∧ u.val < 12) ∧ (1 ≤ v.val ∧ v.val < 12)
  · rw [dif_pos h, dif_pos (by omega)]
    rfl
  · rw [dif_neg h, dif_neg (by omega)]

/-- The first convolution's nine products. -/
theorem nine0 (b : Fin 256) (y x : Fin 11) (n : Fin 32) :
    val_main_v54 (F := Ideal) x0 x1 (ix4 b y x n) + x2 (ix1 n)
      = Spec.conv (grid0 x0 b) (fun n k dy dx => x1 (ix4 n k dy dx)) (fun n => x2 (ix1 n)) y x n := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, pad0]
  simp only [Spec.conv, Spec.tap, Fin.isValue, Fin.val_zero, Fin.val_one, Fin.val_two, Nat.add_zero, Nat.add_comm]

/-- The first layer. -/
theorem stage1 (b : Fin 256) (y x : Fin 11) (n : Fin 32) :
    val_main_v61 (F := Ideal) x0 x1 x2 (ix4 b y x n) = grid1 x0 x1 x2 b y x n := by
  unfold grid1 Spec.layer
  rw [← nine0]
  pointwise [val_main_v61, val_main_v60, val_main_v59, val_main_v58, val_main_v57, val_main_v56, val_main_v55, val_main_cst_0, val_main_cst_1]

/-- The second layer's input with its border of zeros. -/
theorem pad1 (b : Fin 256) (u v : Fin 13) (k : Fin 32) :
    val_main_v62 (F := Ideal) x0 x1 x2 (ix4 b u v k) = Spec.padAt (grid1 x0 x1 x2 b) u v k := by
  pointwise [val_main_v62, val_main_cst_2, stage1]
  unfold Spec.padAt
  by_cases h : (1 ≤ u.val ∧ u.val < 12) ∧ (1 ≤ v.val ∧ v.val < 12)
  · rw [dif_pos h, dif_pos (by omega)]
  · rw [dif_neg h, dif_neg (by omega)]

/-- The second convolution's nine products. -/
theorem nine1 (b : Fin 256) (y x : Fin 11) (n : Fin 64) :
    val_main_v115 (F := Ideal) x0 x1 x2 x3 (ix4 b y x n) + x4 (ix1 n)
      = Spec.conv (grid1 x0 x1 x2 b) (fun n k dy dx => x3 (ix4 n k dy dx)) (fun n => x4 (ix1 n)) y x n := by
  pointwise [val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, pad1]
  simp only [Spec.conv, Spec.tap, Fin.isValue, Fin.val_zero, Fin.val_one, Fin.val_two, Nat.add_zero, Nat.add_comm]

/-- The second layer. -/
theorem stage2 (b : Fin 256) (y x : Fin 11) (n : Fin 64) :
    val_main_v122 (F := Ideal) x0 x1 x2 x3 x4 (ix4 b y x n) = grid2 x0 x1 x2 x3 x4 b y x n := by
  unfold grid2 Spec.layer
  rw [← nine1]
  pointwise [val_main_v122, val_main_v121, val_main_v120, val_main_v119, val_main_v118, val_main_v117, val_main_v116, val_main_cst_3, val_main_cst_4]

/-- The third layer's input with its border of zeros. -/
theorem pad2 (b : Fin 256) (u v : Fin 13) (k : Fin 64) :
    val_main_v123 (F := Ideal) x0 x1 x2 x3 x4 (ix4 b u v k) = Spec.padAt (grid2 x0 x1 x2 x3 x4 b) u v k := by
  pointwise [val_main_v123, val_main_cst_5, stage2]
  unfold Spec.padAt
  by_cases h : (1 ≤ u.val ∧ u.val < 12) ∧ (1 ≤ v.val ∧ v.val < 12)
  · rw [dif_pos h, dif_pos (by omega)]
  · rw [dif_neg h, dif_neg (by omega)]

/-- The third convolution's nine products. -/
theorem nine2 (b : Fin 256) (y x : Fin 11) (n : Fin 64) :
    val_main_v176 (F := Ideal) x0 x1 x2 x3 x4 x5 (ix4 b y x n) + x6 (ix1 n)
      = Spec.conv (grid2 x0 x1 x2 x3 x4 b) (fun n k dy dx => x5 (ix4 n k dy dx)) (fun n => x6 (ix1 n)) y x n := by
  pointwise [val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, pad2]
  simp only [Spec.conv, Spec.tap, Fin.isValue, Fin.val_zero, Fin.val_one, Fin.val_two, Nat.add_zero, Nat.add_comm]

/-- The third layer. -/
theorem stage3 (b : Fin 256) (y x : Fin 11) (n : Fin 64) :
    val_main_v183 (F := Ideal) x0 x1 x2 x3 x4 x5 x6 (ix4 b y x n) = grid3 x0 x1 x2 x3 x4 x5 x6 b y x n := by
  unfold grid3 Spec.layer
  rw [← nine2]
  pointwise [val_main_v183, val_main_v182, val_main_v181, val_main_v180, val_main_v179, val_main_v178, val_main_v177, val_main_cst_6, val_main_cst_7]

/-- The tokens. -/
theorem tokens (b : Fin 256) (p : Fin 121) (k : Fin 64) :
    val_main_v184 (F := Ideal) x0 x1 x2 x3 x4 x5 x6 (ix3 b p k) = Spec.imageTokens x0 x1 x2 x3 x4 x5 x6 b p k := by
  pointwise [val_main_v184, stage3]
  rfl

end Cert.Proof.R

end
-- ==== Proof.RbfLaw.lean ====
/- The radial sum: each term lies between zero and one, so the logarithm, the greatest logarithm taken out, the exponentials
   and the logarithm again, then the exponential, give back the sum of the terms with the floor under each. -/
module

public import proofs.«01_k».proof.Proof.Spec
public import Idealize.ShloMosaic.Lib.Pointwise

@[expose] public section

noncomputable section

open Idealize.ShloMosaic
open scoped BigOperators

namespace Cert.Spec

/-- A square is not negative. -/
theorem sq_nonneg' (x : EReal) : 0 ≤ x * x := by
  induction x with
  | bot => simp
  | top => simp
  | coe r => rw [← EReal.coe_mul]; exact EReal.coe_nonneg.mpr (mul_self_nonneg r)

/-- The exponential of a number that is not positive is a real between zero and one. -/
theorem exp_real (x : EReal) (hx : x ≤ 0) : ∃ r : ℝ, 0 ≤ r ∧ Ideal.exp x = (r : EReal) := by
  induction x with
  | bot => exact ⟨0, le_refl _, rfl⟩
  | top => exact absurd hx (by simp)
  | coe r => exact ⟨Real.exp r, (Real.exp_pos r).le, rfl⟩

/-- A radial term is a real that is not negative. -/
theorem bump_real (c γ g : EReal) : ∃ r : ℝ, 0 ≤ r ∧ bump c γ g = (r : EReal) := by
  refine exp_real _ ?_
  have h1 : 0 ≤ max γ (-γ) := by
    rcases le_total 0 γ with h | h
    · exact le_max_of_le_left h
    · exact le_max_of_le_right (EReal.neg_nonneg.mpr h)
  rw [EReal.neg_mul]
  exact EReal.neg_le_neg_iff.mpr (mul_nonneg h1 (sq_nonneg' _)) |>.trans_eq neg_zero

/-- The floor under a radial term, as a real. -/
theorem radial_floor : Ideal.ofBits .f32 0x2EDBE6FF#32 = ((14411519 / 144115188075855872 : ℝ) : EReal) := by
  simp [Ideal.ofBits, Ideal.ieee, -EReal.coe_mul, -EReal.coe_neg]
  norm_num

/-- The exponential of the logarithm of a sum of exponentials of logarithms, the greatest taken out first, is the sum. -/
theorem exp_logsumexp (a : Fin 9 → ℝ) (ha : ∀ j, 0 < a j) (top : EReal)
    (htop : top = Finset.univ.fold max ⊥ fun j => Ideal.log (a j : EReal)) :
    Ideal.exp (Ideal.log (∑ j, Ideal.exp (Ideal.log (a j : EReal) - top)) + top) = ((∑ j, a j : ℝ) : EReal) := by
  have hlog : ∀ j, Ideal.log (a j : EReal) = ((Real.log (a j) : ℝ) : EReal) := fun j => by
    show (if a j ≤ 0 then (⊥ : EReal) else _) = _
    rw [if_neg (not_le.mpr (ha j))]
  have htr : ∃ M : ℝ, top = (M : EReal) := by
    have hmem : ∀ (s : Finset (Fin 9)), s.fold max ⊥ (fun j => Ideal.log (a j : EReal)) = ⊥ ∧ s = ∅
        ∨ ∃ M : ℝ, s.fold max ⊥ (fun j => Ideal.log (a j : EReal)) = (M : EReal) := by
      intro s
      induction s using Finset.induction_on with
      | empty => exact Or.inl ⟨rfl, rfl⟩
      | insert b s hb ih =>
        refine Or.inr ?_
        rw [Finset.fold_insert hb, hlog b]
        rcases ih with ⟨h, _⟩ | ⟨M, h⟩
        · exact ⟨Real.log (a b), by rw [h]; exact max_eq_left bot_le⟩
        · exact ⟨max (Real.log (a b)) M, by rw [h]; exact (EReal.coe_strictMono.monotone.map_max).symm⟩
    rcases hmem Finset.univ with ⟨_, h⟩ | ⟨M, h⟩
    · exact absurd h (Finset.univ_nonempty).ne_empty
    · exact ⟨M, htop.trans h⟩
  obtain ⟨M, rfl⟩ := htr
  have hterm : ∀ j, Ideal.exp (Ideal.log (a j : EReal) - (M : EReal)) = ((a j * Real.exp (-M) : ℝ) : EReal) := fun j => by
    rw [hlog j, ← EReal.coe_sub]
    show ((Real.exp _ : ℝ) : EReal) = _
    rw [sub_eq_add_neg, Real.exp_add, Real.exp_log (ha j)]
  have hS : 0 < ∑ j, a j := Finset.sum_pos (fun j _ => ha j) Finset.univ_nonempty
  have hsum : ∑ j, Ideal.exp (Ideal.log (a j : EReal) - (M : EReal)) = (((∑ j, a j) * Real.exp (-M) : ℝ) : EReal) := by
    rw [Finset.sum_congr rfl fun j _ => hterm j, Finset.sum_mul]
    exact (map_sum (⟨⟨fun r : ℝ => (r : EReal), rfl⟩, EReal.coe_add⟩ : ℝ →+ EReal) _ _).symm
  have hpos : 0 < (∑ j, a j) * Real.exp (-M) := mul_pos hS (Real.exp_pos _)
  rw [hsum]
  have hl : Ideal.log (((∑ j, a j) * Real.exp (-M) : ℝ) : EReal) = ((Real.log ((∑ j, a j) * Real.exp (-M)) : ℝ) : EReal) := by
    show (if (∑ j, a j) * Real.exp (-M) ≤ 0 then (⊥ : EReal) else _) = _
    rw [if_neg (not_le.mpr hpos)]
  rw [hl, ← EReal.coe_add]
  show ((Real.exp _ : ℝ) : EReal) = _
  rw [Real.exp_add, Real.exp_log hpos, mul_assoc, ← Real.exp_add, neg_add_cancel, Real.exp_zero, mul_one]

/-- The same of the nine radial terms of a channel, the floor added to each before its logarithm. -/
theorem radial_eq (ce ga : Fin 64 → Fin 9 → EReal) (n : Fin 64) (g : EReal) (top : EReal)
    (htop : top = Finset.univ.fold max ⊥ fun j =>
      Ideal.log (bump (ce n j) (ga n j) g + Ideal.ofBits .f32 0x2EDBE6FF#32)) :
    Ideal.exp (Ideal.log (∑ j, Ideal.exp (Ideal.log (bump (ce n j) (ga n j) g + Ideal.ofBits .f32 0x2EDBE6FF#32) - top)) + top)
      = radial ce ga n g := by
  choose r hr0 hr using fun j => bump_real (ce n j) (ga n j) g
  have ha : ∀ j, bump (ce n j) (ga n j) g + Ideal.ofBits .f32 0x2EDBE6FF#32
      = ((r j + 14411519 / 144115188075855872 : ℝ) : EReal) := fun j => by
    rw [hr j, radial_floor, ← EReal.coe_add]
  simp only [ha] at htop ⊢
  rw [exp_logsumexp _ (fun j => add_pos_of_nonneg_of_pos (hr0 j) (by norm_num)) top htop]
  unfold radial
  rw [Finset.sum_congr rfl fun j _ => hr j]
  have hs : (∑ j, (r j : EReal)) = ((∑ j, r j : ℝ) : EReal) :=
    (map_sum (⟨⟨fun r : ℝ => (r : EReal), rfl⟩, EReal.coe_add⟩ : ℝ →+ EReal) _ _).symm
  rw [hs, ← EReal.coe_add]
  congr 1
  rw [Finset.sum_add_distrib, Finset.sum_const]
  norm_num

end Cert.Spec

end
-- ==== Proof.RTail.lean ====
/- What the reference computes from the graph layer on: the activation, the attention, the pooled channels, the scores. -/
module

public import proofs.«01_k».proof.Proof.RConv
public import proofs.«01_k».proof.Proof.RbfLaw
public import proofs.«01_k».proof.Proof.Words

@[expose] public section

set_option maxRecDepth 16384

noncomputable section

namespace Cert.Proof.R

open Idealize.ShloMosaic Cert.ReferenceIdeal Cert.ReferenceIdeal.Gen Cert.ReferenceIdeal.Read

variable (x0 : FVec Ideal S256x200x11x11 .f32) (x1 : FVec Ideal S32x200x3x3 .f32) (x2 : FVec Ideal S32 .f32)
  (x3 : FVec Ideal S64x32x3x3 .f32) (x4 : FVec Ideal S64 .f32) (x5 : FVec Ideal S64x64x3x3 .f32) (x6 : FVec Ideal S64 .f32)
  (x7 x8 : FVec Ideal S64x64 .f32) (x9 : FVec Ideal S64 .f32) (x10 : FVec Ideal S64x3 .f32) (x11 : FVec Ideal S64x2 .f32)
  (x12 x13 : FVec Ideal S64x9 .f32) (x14 : FVec Ideal S16x64 .f32) (x15 : FVec Ideal S16 .f32) (x16 : FVec Ideal S64x16 .f32)
  (x17 : FVec Ideal S64 .f32) (x18 : FVec Ideal S128x64 .f32) (x19 : FVec Ideal S128 .f32) (x20 : FVec Ideal S16x128 .f32)
  (x21 : FVec Ideal S16 .f32)

/-- The activation of a channel. -/
theorem act (b : Fin 256) (p : Fin 121) (n : Fin 64) :
    val_main_v291 (F := Ideal) x0 x1 x2 x3 x4 x5 x6 x7 x8 x9 x10 x11 (ix3 b p n)
      = Spec.act (fun n i => x10 (ix2 n i)) (fun n i => x11 (ix2 n i)) n (val_main_v255 (F := Ideal) x0 x1 x2 x3 x4 x5 x6 x7 x8 x9 (ix3 b p n)) := by
  pointwise [val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_cst_22, val_main_cst_23, val_main_cst_24, Spec.act, Spec.bn]
  rfl

/-- One radial term before its logarithm. -/
theorem bump (b : Fin 256) (p : Fin 121) (n : Fin 64) (j : Fin 9) :
    val_main_v306 (F := Ideal) x0 x1 x2 x3 x4 x5 x6 x7 x8 x9 x10 x11 x12 x13 (ix4 b p n j)
      = Ideal.log (Spec.bump (x12 (ix2 n j)) (x13 (ix2 n j)) (val_main_v291 (F := Ideal) x0 x1 x2 x3 x4 x5 x6 x7 x8 x9 x10 x11 (ix3 b p n)) + Ideal.ofBits .f32 0x2EDBE6FF#32) := by
  pointwise [val_main_v292, val_main_v293, val_main_v294, val_main_v295, val_main_v296, val_main_v297, val_main_v298, val_main_v299, val_main_v300, val_main_v301, val_main_v302, val_main_v303, val_main_v304, val_main_v305, val_main_v306, val_main_cst_25, Spec.bump]
  rfl

/-- The sum of a channel's radial terms. -/
theorem radial (b : Fin 256) (p : Fin 121) (n : Fin 64) :
    val_main_v316 (F := Ideal) x0 x1 x2 x3 x4 x5 x6 x7 x8 x9 x10 x11 x12 x13 (ix3 b p n)
      = Spec.radial (fun n j => x12 (ix2 n j)) (fun n j => x13 (ix2 n j)) n (val_main_v291 (F := Ideal) x0 x1 x2 x3 x4 x5 x6 x7 x8 x9 x10 x11 (ix3 b p n)) := by
  refine Eq.trans ?_ (Spec.radial_eq (fun n j => x12 (ix2 n j)) (fun n j => x13 (ix2 n j)) n _ _ rfl)
  pointwise [val_main_v307, val_main_v308, val_main_v309, val_main_v310, val_main_v311, val_main_v312, val_main_v313, val_main_v314, val_main_v315, val_main_v316, val_main_cst_26, val_main_cst_27, bump, Words.minus_infinity]

/-- The attention of a channel. -/
theorem attend (b : Fin 256) (p : Fin 121) (n : Fin 64) :
    val_main_v337 (F := Ideal) x0 x1 x2 x3 x4 x5 x6 x7 x8 x9 x10 x11 x12 x13 x14 x15 x16 x17 (ix3 b p n)
      = Spec.attend (fun m k => x14 (ix2 m k)) (fun m => x15 (ix1 m)) (fun n m => x16 (ix2 n m)) (fun n => x17 (ix1 n))
          (fun n j => x12 (ix2 n j)) (fun n j => x13 (ix2 n j)) (fun k => val_main_v291 (F := Ideal) x0 x1 x2 x3 x4 x5 x6 x7 x8 x9 x10 x11 (ix3 b p k)) n := by
  pointwise [val_main_v317, val_main_v318, val_main_v319, val_main_v320, val_main_v321, val_main_v322, val_main_v323, val_main_v324, val_main_v325, val_main_v326, val_main_v327, val_main_v328, val_main_v329, val_main_v330, val_main_v331, val_main_v332, val_main_v333, val_main_v334, val_main_v335, val_main_v336, val_main_v337, val_main_cst_28, val_main_cst_29, val_main_cst_30, val_main_call0_cst, val_main_call0_v0, radial, Spec.attend, Spec.hidden, Spec.bn]
  rfl

/-- The pooled channels. -/
theorem pool (b : Fin 256) (n : Fin 64) :
    val_main_v342 (F := Ideal) x0 x1 x2 x3 x4 x5 x6 x7 x8 x9 x10 x11 x12 x13 x14 x15 x16 x17 (ix2 b n)
      = Spec.pool (fun p => Spec.attend (fun m k => x14 (ix2 m k)) (fun m => x15 (ix1 m)) (fun n m => x16 (ix2 n m))
          (fun n => x17 (ix1 n)) (fun n j => x12 (ix2 n j)) (fun n j => x13 (ix2 n j)) (fun k => val_main_v291 (F := Ideal) x0 x1 x2 x3 x4 x5 x6 x7 x8 x9 x10 x11 (ix3 b p k))) n := by
  pointwise [val_main_v338, val_main_v339, val_main_v340, val_main_v341, val_main_v342, val_main_cst_31, val_main_cst_32, val_main_cst_33, attend, Spec.pool, Words.minus_infinity]
  rfl

/-- The scores. -/
theorem scores (b : Fin 256) (o : Fin 16) :
    val_main_v355 (F := Ideal) x0 x1 x2 x3 x4 x5 x6 x7 x8 x9 x10 x11 x12 x13 x14 x15 x16 x17 x18 x19 x20 x21 (ix2 b o)
      = Spec.head (fun m k => x18 (ix2 m k)) (fun m => x19 (ix1 m)) (fun o m => x20 (ix2 o m)) (fun o => x21 (ix1 o))
          (fun k => val_main_v342 (F := Ideal) x0 x1 x2 x3 x4 x5 x6 x7 x8 x9 x10 x11 x12 x13 x14 x15 x16 x17 (ix2 b k)) o := by
  pointwise [val_main_v343, val_main_v344, val_main_v345, val_main_v346, val_main_v347, val_main_v348, val_main_v349, val_main_v350, val_main_v351, val_main_v352, val_main_v353, val_main_v354, val_main_v355, val_main_cst_34, val_main_call1_cst, val_main_call1_v0, Spec.head, Spec.headHidden, Spec.bn]

/-- The squared distances between the tokens. -/
theorem dist (b : Fin 256) (i j : Fin 121) :
    val_main_v198 (F := Ideal) x0 x1 x2 x3 x4 x5 x6 (ix3 b i j) = Spec.dist (Spec.imageTokens x0 x1 x2 x3 x4 x5 x6 b) i j := by
  pointwise [val_main_v185, val_main_v186, val_main_v187, val_main_v188, val_main_v189, val_main_v190, val_main_v191, val_main_v192, val_main_v193, val_main_v194, val_main_v195, val_main_v196, val_main_v197, val_main_v198, val_main_cst_8, val_main_cst_9, val_main_cst_10, tokens, Spec.dist]

end Cert.Proof.R

end
-- ==== Proof.RWords.lean ====
/- The words with which the reference places its neighbours: the image, the token, the neighbour. -/
module

public import proofs.«01_k».proof.Proof.TopLaw
public import proofs.«01_k».proof.Proof.RTail
public import Idealize.ShloMosaic.Lib.Routing.OpsSet

@[expose] public section

set_option maxRecDepth 16384

noncomputable section

namespace Cert.Proof.R

open Idealize.ShloMosaic Cert.ReferenceIdeal Cert.ReferenceIdeal.Gen Cert.ReferenceIdeal.Read

/-- A position is not a negative word, so it is never wrapped. -/
theorem not_wrapped (n : ℕ) (h : n < 256) : IntOp.cmpi .slt (BitVec.ofNat 32 n) 0#32 = 0#1 := by
  have key : ∀ n : Fin 256, IntOp.cmpi .slt (BitVec.ofNat 32 n.val) 0#32 = 0#1 := by decide +kernel
  exact key ⟨n, h⟩

/-- A position read behind its wrapping. -/
theorem kept (n : ℕ) (h : n < 256) (w : BitVec 32) :
    Scalar.select (IntOp.cmpi .slt (BitVec.ofNat 32 n) 0#32) w (BitVec.ofNat 32 n) = BitVec.ofNat 32 n := by
  rw [not_wrapped n h]
  rfl

/-- A small word read signed. -/
theorem signed (n : ℕ) (h : n < 256) : (BitVec.ofNat 32 n).toInt = n := by
  have key : ∀ n : Fin 256, (BitVec.ofNat 32 n.val).toInt = n.val := by decide +kernel
  exact key ⟨n, h⟩

/-- Where an update is placed whose three words are an image, a token and a neighbour. -/
theorem lands (idx : IVec S256x121x8x3 32) (b : Fin 256) (i : Fin 121) (s : Fin 8) (n : Fin 121)
    (hb : (idx (ix4 b i s (0 : Fin 3))).toInt = b.val) (hi : (idx (ix4 b i s (1 : Fin 3))).toInt = i.val)
    (hn : (idx (ix4 b i s (2 : Fin 3))).toInt = n.val) :
    scatter_S256x121x121_S256x121x8x3_S256x121x8_n_012_012_3.resultIdx? (ix3 b i s) idx = some (ix3 b i n) := by
  have hsi : ∀ q : Fin 3, scatter_S256x121x121_S256x121x8x3_S256x121x8_n_012_012_3.siIdx (ix3 b i s) q = ix4 b i s q := fun q => by
    funext a
    apply Fin.ext
    match a with
    | ⟨0, _⟩ => rfl
    | ⟨1, _⟩ => rfl
    | ⟨2, _⟩ => rfl
    | ⟨3, _⟩ => rfl
  have hat : ∀ a : Fin 3, scatter_S256x121x121_S256x121x8x3_S256x121x8_n_012_012_3.start (ix3 b i s) idx a
      + scatter_S256x121x121_S256x121x8x3_S256x121x8_n_012_012_3.window (ix3 b i s) a = ((ix3 b i n : S256x121x121.Idx) a).val := fun a => by
    match a with
    | ⟨0, _⟩ => exact (add_zero _).trans ((congrArg (fun k => (idx k).toInt) (hsi 0)).trans hb)
    | ⟨1, _⟩ => exact (add_zero _).trans ((congrArg (fun k => (idx k).toInt) (hsi 1)).trans hi)
    | ⟨2, _⟩ => exact (add_zero _).trans ((congrArg (fun k => (idx k).toInt) (hsi 2)).trans hn)
  unfold ScatterDims.resultIdx?
  rw [dif_pos fun a => by
    rw [hat a]
    exact ⟨Int.natCast_nonneg _, Int.ofNat_lt.2 (Fin.isLt _)⟩]
  refine congrArg some (funext fun a => Fin.ext ?_)
  show Int.toNat _ = _
  rw [hat a, Int.toNat_natCast]

variable (x0 : FVec Ideal S256x200x11x11 .f32) (x1 : FVec Ideal S32x200x3x3 .f32) (x2 : FVec Ideal S32 .f32)
  (x3 : FVec Ideal S64x32x3x3 .f32) (x4 : FVec Ideal S64 .f32) (x5 : FVec Ideal S64x64x3x3 .f32) (x6 : FVec Ideal S64 .f32)

/-- The tokens nearest to token `i` of image `b`, nearest first, as the reference lists them: the token itself is expected in front. -/
abbrev nearest (b : Fin 256) (i : Fin 121) : Fin 9 → Fin 121 :=
  Spec.firstNine (val_main_v199 (F := Ideal) x0 x1 x2 x3 x4 x5 x6) b i

/-- A listed neighbour, the front one left out. -/
theorem neighbour (b : Fin 256) (i : Fin 121) (s : Fin 8) :
    val_main_v200 (F := Ideal) x0 x1 x2 x3 x4 x5 x6 (ix3 b i s) = BitVec.ofNat 32 (nearest x0 x1 x2 x3 x4 x5 x6 b i s.succ).val := by
  refine Eq.trans ?_ (Spec.top_positions 9 (by decide) (val_main_v199 (F := Ideal) x0 x1 x2 x3 x4 x5 x6) sliceFits_S256x121x121_S256x121x9 b i s.succ)
  refine extractStridedSlice_apply _ _ slices_S256x121x9_S256x121x8_0_0_1 _ _ fun a => ?_
  match a with
  | ⟨0, _⟩ => exact (Nat.zero_add _).symm
  | ⟨1, _⟩ => exact (Nat.zero_add _).symm
  | ⟨2, _⟩ => exact Nat.add_comm _ _

/-- The image word. -/
theorem word_image (b : Fin 256) (i : Fin 121) (s : Fin 8) :
    val_main_v226 (F := Ideal) x0 x1 x2 x3 x4 x5 x6 (ix4 b i s (0 : Fin 3)) = BitVec.ofNat 32 b.val := by
  pointwise [val_main_v201, val_main_v202, val_main_v206, val_main_v207, val_main_v208, val_main_v209, val_main_v210, val_main_v221, val_main_v223, val_main_v226, val_main_c, val_main_c_12]
  exact kept _ (by omega) _

/-- The token word. -/
theorem word_token (b : Fin 256) (i : Fin 121) (s : Fin 8) :
    val_main_v226 (F := Ideal) x0 x1 x2 x3 x4 x5 x6 (ix4 b i s (1 : Fin 3)) = BitVec.ofNat 32 i.val := by
  pointwise [val_main_v203, val_main_v204, val_main_v211, val_main_v212, val_main_v213, val_main_v214, val_main_v215, val_main_v222, val_main_v224, val_main_v226, val_main_c_13, val_main_c_14]
  exact kept _ (by omega) _

/-- The neighbour word. -/
theorem word_neighbour (b : Fin 256) (i : Fin 121) (s : Fin 8) :
    val_main_v226 (F := Ideal) x0 x1 x2 x3 x4 x5 x6 (ix4 b i s (2 : Fin 3)) = BitVec.ofNat 32 (nearest x0 x1 x2 x3 x4 x5 x6 b i s.succ).val := by
  pointwise [val_main_v216, val_main_v217, val_main_v218, val_main_v219, val_main_v220, val_main_v225, val_main_v226, val_main_c_15, val_main_c_16, neighbour]
  exact kept _ (by omega) _

/-- Where an update is placed. -/
theorem placed (b : Fin 256) (i : Fin 121) (s : Fin 8) :
    scatter_S256x121x121_S256x121x8x3_S256x121x8_n_012_012_3.resultIdx? (ix3 b i s) (val_main_v226 (F := Ideal) x0 x1 x2 x3 x4 x5 x6)
      = some (ix3 b i (nearest x0 x1 x2 x3 x4 x5 x6 b i s.succ)) :=
  lands _ b i s _ ((congrArg BitVec.toInt (word_image x0 x1 x2 x3 x4 x5 x6 b i s)).trans (signed _ (by omega)))
    ((congrArg BitVec.toInt (word_token x0 x1 x2 x3 x4 x5 x6 b i s)).trans (signed _ (by omega)))
    ((congrArg BitVec.toInt (word_neighbour x0 x1 x2 x3 x4 x5 x6 b i s)).trans (signed _ (by omega)))

end Cert.Proof.R

end
-- ==== Proof.GraphLaw.lean ====
/- The normalised adjacency: a degree raised to the power minus one half on either side of an indicator is the indicator over
   the degree, and adding the identity adds the token itself. -/
module

public import proofs.«01_k».proof.Proof.NeighbourLaw
public import Idealize.ShloMosaic.Lib.Pointwise

@[expose] public section

noncomputable section

open Idealize.ShloMosaic
open scoped BigOperators

namespace Cert.Spec

/-- The floor under the degree, as a real. -/
theorem degree_floor : Ideal.ofBits .f32 0x358637BD#32 = ((8796093 / 8796093022208 : ℝ) : EReal) := by
  simp [Ideal.ofBits, Ideal.ieee, -EReal.coe_mul, -EReal.coe_neg]
  norm_num

/-- The exponent, as a real. -/
theorem minus_half : Ideal.ofBits .f32 0xBF000000#32 = ((-(1 / 2) : ℝ) : EReal) := by
  simp [Ideal.ofBits, Ideal.ieee, -EReal.coe_mul, -EReal.coe_neg]
  norm_num

/-- The degree of a token with eight neighbours to the power minus one half, twice, is one over the degree. -/
theorem inv_sqrt_sq :
    Ideal.pow (8 + Ideal.ofBits .f32 0x358637BD#32) (Ideal.ofBits .f32 0xBF000000#32)
      * Ideal.pow (8 + Ideal.ofBits .f32 0x358637BD#32) (Ideal.ofBits .f32 0xBF000000#32) = invDegree := by
  have hd : (8 : EReal) + Ideal.ofBits .f32 0x358637BD#32 = ((70368752973757 / 8796093022208 : ℝ) : EReal) := by
    rw [degree_floor, show (8 : EReal) = ((8 : ℝ) : EReal) from rfl, ← EReal.coe_add]
    congr 1
    norm_num
  rw [hd, minus_half]
  show ((Real.rpow _ _ : ℝ) : EReal) * ((Real.rpow _ _ : ℝ) : EReal) = _
  rw [← EReal.coe_mul]
  congr 1
  show (70368752973757 / 8796093022208 : ℝ) ^ (-(1 / 2) : ℝ) * (70368752973757 / 8796093022208 : ℝ) ^ (-(1 / 2) : ℝ) = _
  rw [← Real.rpow_add (by norm_num)]
  norm_num [Real.rpow_neg_one]

/-- A number that is one or zero, times a number, is not negative where the other is not. -/
theorem invDegree_pos : (0 : EReal) ≤ invDegree := by
  have : ((0 : ℝ) : EReal) ≤ ((8796093022208 / 70368752973757 : ℝ) : EReal) := EReal.coe_le_coe_iff.mpr (by norm_num)
  exact this

/-- A finite sum of products with one nonnegative real factor: the factor comes out. -/
theorem sum_mul_coe {ι : Type} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The normalised adjacency with the identity added, applied to a column, is what a token gathers. -/
theorem gather_eq (nb : Fin 121 → Fin 121 → EReal) (tw : Fin 121 → Fin 64 → EReal) (i : Fin 121) (n : Fin 64)
    (h01 : ∀ j, nb i j = 0 ∨ nb i j = 1) (c : EReal) (hc : c * c = invDegree) :
    ∑ j, (c * nb i j * c + if i = j then 1 else 0) * tw j n = gather nb tw i n := by
  have hterm : ∀ j, (c * nb i j * c + if i = j then 1 else 0) * tw j n
      = nb i j * tw j n * invDegree + if i = j then tw j n else 0 := by
    intro j
    have h1 : c * nb i j * c = nb i j * invDegree := by rw [← hc]; ac_rfl
    rw [h1]
    have hnn : 0 ≤ nb i j * invDegree := by
      rcases h01 j with h | h <;> rw [h]
      · rw [zero_mul]
      · rw [one_mul]; exact invDegree_pos
    have hi : (0 : EReal) ≤ if i = j then 1 else 0 := by split <;> simp
    rw [EReal.right_distrib_of_nonneg hnn hi]
    congr 1
    · ac_rfl
    · split
      · rw [one_mul]
      · rw [zero_mul]
  rw [Finset.sum_congr rfl fun j _ => hterm j, Finset.sum_add_distrib,
    sum_mul_coe Finset.univ (fun j => nb i j * tw j n) (8796093022208 / 70368752973757) (by norm_num)]
  unfold gather
  congr 1
  rw [Finset.sum_ite_eq]
  simp

end Cert.Spec

end
-- ==== Proof.RGraph.lean ====
/- The graph layer of the reference: who is a neighbour of whom, the normalised sum over the neighbours, the two linear maps. -/
module

public import proofs.«01_k».proof.Proof.RWords
public import proofs.«01_k».proof.Proof.GraphLaw

@[expose] public section

set_option maxRecDepth 16384

noncomputable section

namespace Cert.Proof.R

open Idealize.ShloMosaic Cert.ReferenceIdeal Cert.ReferenceIdeal.Gen Cert.ReferenceIdeal.Read
open scoped BigOperators

variable (x0 : FVec Ideal S256x200x11x11 .f32) (x1 : FVec Ideal S32x200x3x3 .f32) (x2 : FVec Ideal S32 .f32)
  (x3 : FVec Ideal S64x32x3x3 .f32) (x4 : FVec Ideal S64 .f32) (x5 : FVec Ideal S64x64x3x3 .f32) (x6 : FVec Ideal S64 .f32)
  (x7 x8 : FVec Ideal S64x64 .f32) (x9 : FVec Ideal S64 .f32)

/-- The word of one is the number one. -/
theorem one_word : Ideal.ofBits .f32 0x3F800000#32 = (1 : EReal) := by
  simp [Ideal.ofBits, Ideal.ieee, -EReal.coe_mul, -EReal.coe_neg]
  norm_num

/-- The word of zero is the number zero. -/
theorem zero_word : Ideal.ofBits .f32 0x00000000#32 = (0 : EReal) := by
  simp [Ideal.ofBits, Ideal.ieee, -EReal.coe_mul, -EReal.coe_neg]

/-- Two positions are compared: one where they are the same, zero elsewhere. -/
theorem same_word (i j : Fin 121) :
    (FloatOps.uitofp (F := Ideal) .f32 (IntOp.cmpi .eq (IntOp.addi (BitVec.ofNat 32 i.val) 0#32) (BitVec.ofNat 32 j.val)) : Ideal .f32)
      = if i = j then (1 : EReal) else 0 := by
  have key : ∀ i j : Fin 121, IntOp.cmpi .eq (IntOp.addi (BitVec.ofNat 32 i.val) 0#32) (BitVec.ofNat 32 j.val) = BitVec.ofBool (decide (i = j)) := by
    decide +kernel
  rw [key]
  by_cases h : i = j
  · rw [if_pos h, decide_eq_true h]
    show (((((BitVec.ofBool true).toNat : ℕ) : ℝ)) : EReal) = 1
    simp
  · rw [if_neg h, decide_eq_false h]
    show (((((BitVec.ofBool false).toNat : ℕ) : ℝ)) : EReal) = 0
    simp

/-- Every update is a one. -/
theorem update (k : S256x121x8.Idx) : val_main_v227 (F := Ideal) k = (1 : EReal) := one_word

/-- Before the updates there is a zero everywhere. -/
theorem blank (k : S256x121x121.Idx) : val_main_v205 (F := Ideal) k = (0 : EReal) := zero_word

/-- Who is a neighbour of whom. -/
theorem adjacent (b : Fin 256) (i j : Fin 121) :
    val_main_v228 (F := Ideal) x0 x1 x2 x3 x4 x5 x6 (ix3 b i j)
      = Spec.near (nearest x0 x1 x2 x3 x4 x5 x6 b i) (Spec.Ranked.at128 j) := by
  unfold val_main_v228 Spec.near
  by_cases h : ∃ s : Fin 8, (nearest x0 x1 x2 x3 x4 x5 x6 b i s.succ).val = j.val
  · refine Eq.trans ?_ (if_pos h).symm
    obtain ⟨s, hs⟩ := h
    refine Routing.scatter_set_hit _ _ _ _ _ _ (fun k _ => update k) (ix3 b i s) ?_
    rw [placed, Fin.ext hs]
  · refine Eq.trans ?_ (if_neg h).symm
    refine (Routing.scatter_set_miss _ _ _ _ _ fun k hk => h ?_).trans (blank _)
    obtain ⟨b', i', s, rfl⟩ : ∃ (b' : Fin 256) (i' : Fin 121) (s : Fin 8), k = ix3 b' i' s := ⟨k 0, k 1, k 2, eq_ix3 k⟩
    rw [placed] at hk
    have hk := Option.some.inj hk
    have h0 : b' = b := congrFun hk (0 : Fin 3)
    have h1 : i' = i := congrFun hk (1 : Fin 3)
    have h2 : nearest x0 x1 x2 x3 x4 x5 x6 b' i' s.succ = j := congrFun hk (2 : Fin 3)
    subst h0 h1
    exact ⟨s, congrArg Fin.val h2⟩

/-- The weight of a token in the normalisation: with eight neighbours, one over the root of the degree. -/
theorem weight (b : Fin 256) (i : Fin 121)
    (he : Spec.Ranked (Spec.dist (Spec.imageTokens x0 x1 x2 x3 x4 x5 x6 b) i) (nearest x0 x1 x2 x3 x4 x5 x6 b i)) :
    val_main_v233 (F := Ideal) x0 x1 x2 x3 x4 x5 x6 (ix2 b i)
      = Ideal.pow (8 + Ideal.ofBits .f32 0x358637BD#32) (Ideal.ofBits .f32 0xBF000000#32) := by
  pointwise [val_main_v229, val_main_v230, val_main_v231, val_main_v232, val_main_v233, val_main_cst_18, val_main_cst_19, val_main_cst_20, adjacent]
  rw [Spec.near_sum he]

/-- The weighted neighbours, every token with itself. -/
theorem linked (b : Fin 256) (i j : Fin 121) :
    val_main_v248 (F := Ideal) x0 x1 x2 x3 x4 x5 x6 (ix3 b i j)
      = val_main_v233 (F := Ideal) x0 x1 x2 x3 x4 x5 x6 (ix2 b i) * Spec.near (nearest x0 x1 x2 x3 x4 x5 x6 b i) (Spec.Ranked.at128 j)
          * val_main_v233 (F := Ideal) x0 x1 x2 x3 x4 x5 x6 (ix2 b j) + if i = j then 1 else 0 := by
  pointwise [val_main_v234, val_main_v235, val_main_v236, val_main_v237, val_main_v238, val_main_v239, val_main_v240, val_main_v241, val_main_v242, val_main_v243, val_main_v244, val_main_v245, val_main_v246, val_main_v247, val_main_v248, val_main_c_21, adjacent]
  rw [same_word]

/-- The tokens through the neighbours' linear map. -/
theorem mapped (b : Fin 256) (i : Fin 121) (n : Fin 64) :
    val_main_v250 (F := Ideal) x0 x1 x2 x3 x4 x5 x6 x8 (ix3 b i n) = Spec.lin (Spec.imageTokens x0 x1 x2 x3 x4 x5 x6 b) (fun k n => x8 (ix2 k n)) i n := by
  pointwise [val_main_v250, tokens, Spec.lin]

/-- The graph layer before its activation. -/
theorem graph (b : Fin 256)
    (he : ∀ i, Spec.Ranked (Spec.dist (Spec.imageTokens x0 x1 x2 x3 x4 x5 x6 b) i) (nearest x0 x1 x2 x3 x4 x5 x6 b i))
    (i : Fin 121) (n : Fin 64) :
    val_main_v255 (F := Ideal) x0 x1 x2 x3 x4 x5 x6 x7 x8 x9 (ix3 b i n)
      = Spec.pre (Spec.imageTokens x0 x1 x2 x3 x4 x5 x6 b) (fun i j => Spec.near (nearest x0 x1 x2 x3 x4 x5 x6 b i) (Spec.Ranked.at128 j))
          (fun k n => x7 (ix2 k n)) (fun k n => x8 (ix2 k n)) (fun n => x9 (ix1 n)) i n := by
  have hw := fun j => weight x0 x1 x2 x3 x4 x5 x6 b j (he j)
  pointwise [val_main_v249, val_main_v251, val_main_v252, val_main_v253, val_main_v254, val_main_v255, tokens, mapped, linked, hw, Spec.pre]
  rw [Spec.gather_eq (fun i j => Spec.near (nearest x0 x1 x2 x3 x4 x5 x6 b i) (Spec.Ranked.at128 j)) _ i n _ _ Spec.inv_sqrt_sq]
  · rfl
  · intro j
    unfold Spec.near
    split
    · exact Or.inr rfl
    · exact Or.inl rfl

end Cert.Proof.R

end
-- ==== Proof.RPre.lean ====
/- The precondition, read with the stages of the reference: the ten least distances of each token rise strictly. -/
module

public import proofs.«01_k».proof.Proof.PreFacts
public import proofs.«01_k».proof.Proof.Gen.ReferenceIdeal.Read

@[expose] public section

set_option maxRecDepth 16384

noncomputable section

namespace Cert.Proof.R

open Idealize.ShloMosaic Cert.ReferenceIdeal Cert.ReferenceIdeal.Gen Cert.ReferenceIdeal.Read

variable {F : FTy → Type} [FloatOps F]
variable (x0 : FVec F S256x200x11x11 .f32) (x1 : FVec F S32x200x3x3 .f32) (x2 : FVec F S32 .f32)
  (x3 : FVec F S64x32x3x3 .f32) (x4 : FVec F S64 .f32) (x5 : FVec F S64x64x3x3 .f32) (x6 : FVec F S64 .f32)

/-- The ten greatest negated distances of each token, greatest first. -/
def leastTen : FVec F ⟨3, ![256, 121, 10]⟩ .f32 :=
  (Host.topK ⟨3, ![256, 121, 10]⟩ 2 (FloatOps.cmpfTotal .gt) (val_main_v199 (F := F) x0 x1 x2 x3 x4 x5 x6)
    Pre_distinct_neighbors.Facts.sliceFits_S256x121x121_S256x121x10).1

/-- Whether each of the ten is below the one before it. -/
def apart : IVec ⟨3, ![256, 121, 9]⟩ 1 :=
  cmpf .olt
    (extractStridedSlice ⟨3, ![256, 121, 9]⟩ ![0, 0, 1] (leastTen x0 x1 x2 x3 x4 x5 x6) Pre_distinct_neighbors.Facts.slices_S256x121x10_S256x121x9_0_0_1)
    (extractStridedSlice ⟨3, ![256, 121, 9]⟩ ![0, 0, 0] (leastTen x0 x1 x2 x3 x4 x5 x6) Pre_distinct_neighbors.Facts.slices_S256x121x10_S256x121x9_0_0_0)

/-- The precondition from its part 8 on. -/
theorem part8 : Pre_distinct_neighbors.fn_part8 (F := F) (val_main_v181 (F := F) x0 x1 x2 x3 x4 x5 x6) (val_main_v182 (F := F)) = apart x0 x1 x2 x3 x4 x5 x6 :=
  rfl

/-- The precondition from its part 7 on. -/
theorem part7 : Pre_distinct_neighbors.fn_part7 (F := F) x5 x6 (val_main_v123 (F := F) x0 x1 x2 x3 x4) (val_main_v158 (F := F) x0 x1 x2 x3 x4 x5) (val_main_v159 (F := F) x0 x1 x2 x3 x4) (val_main_v160 (F := F) x5) = apart x0 x1 x2 x3 x4 x5 x6 :=
  (show _ = Pre_distinct_neighbors.fn_part8 (F := F) (val_main_v181 (F := F) x0 x1 x2 x3 x4 x5 x6) (val_main_v182 (F := F)) from rfl).trans (part8 x0 x1 x2 x3 x4 x5 x6)

/-- The precondition from its part 6 on. -/
theorem part6 : Pre_distinct_neighbors.fn_part6 (F := F) x5 x6 (val_main_v123 (F := F) x0 x1 x2 x3 x4) (val_main_v134 (F := F) x0 x1 x2 x3 x4 x5) (val_main_v135 (F := F) x0 x1 x2 x3 x4) (val_main_v136 (F := F) x5) = apart x0 x1 x2 x3 x4 x5 x6 :=
  (show _ = Pre_distinct_neighbors.fn_part7 (F := F) x5 x6 (val_main_v123 (F := F) x0 x1 x2 x3 x4) (val_main_v158 (F := F) x0 x1 x2 x3 x4 x5) (val_main_v159 (F := F) x0 x1 x2 x3 x4) (val_main_v160 (F := F) x5) from rfl).trans (part7 x0 x1 x2 x3 x4 x5 x6)

/-- The precondition from its part 5 on. -/
theorem part5 : Pre_distinct_neighbors.fn_part5 (F := F) x4 x5 x6 (val_main_v115 (F := F) x0 x1 x2 x3) = apart x0 x1 x2 x3 x4 x5 x6 :=
  (show _ = Pre_distinct_neighbors.fn_part6 (F := F) x5 x6 (val_main_v123 (F := F) x0 x1 x2 x3 x4) (val_main_v134 (F := F) x0 x1 x2 x3 x4 x5) (val_main_v135 (F := F) x0 x1 x2 x3 x4) (val_main_v136 (F := F) x5) from rfl).trans (part6 x0 x1 x2 x3 x4 x5 x6)

/-- The precondition from its part 4 on. -/
theorem part4 : Pre_distinct_neighbors.fn_part4 (F := F) x3 x4 x5 x6 (val_main_v62 (F := F) x0 x1 x2) (val_main_v91 (F := F) x0 x1 x2 x3) = apart x0 x1 x2 x3 x4 x5 x6 :=
  (show _ = Pre_distinct_neighbors.fn_part5 (F := F) x4 x5 x6 (val_main_v115 (F := F) x0 x1 x2 x3) from rfl).trans (part5 x0 x1 x2 x3 x4 x5 x6)

/-- The precondition from its part 3 on. -/
theorem part3 : Pre_distinct_neighbors.fn_part3 (F := F) x3 x4 x5 x6 (val_main_v62 (F := F) x0 x1 x2) (val_main_v67 (F := F) x0 x1 x2 x3) = apart x0 x1 x2 x3 x4 x5 x6 :=
  (show _ = Pre_distinct_neighbors.fn_part4 (F := F) x3 x4 x5 x6 (val_main_v62 (F := F) x0 x1 x2) (val_main_v91 (F := F) x0 x1 x2 x3) from rfl).trans (part4 x0 x1 x2 x3 x4 x5 x6)

/-- The precondition from its part 2 on. -/
theorem part2 : Pre_distinct_neighbors.fn_part2 (F := F) x1 x2 x3 x4 x5 x6 (val_main_v1 (F := F) x0) (val_main_v42 (F := F) x0 x1) (val_main_v43 (F := F) x0) (val_main_v46 (F := F) x1) = apart x0 x1 x2 x3 x4 x5 x6 :=
  (show _ = Pre_distinct_neighbors.fn_part3 (F := F) x3 x4 x5 x6 (val_main_v62 (F := F) x0 x1 x2) (val_main_v67 (F := F) x0 x1 x2 x3) from rfl).trans (part3 x0 x1 x2 x3 x4 x5 x6)

/-- The precondition from its part 1 on. -/
theorem part1 : Pre_distinct_neighbors.fn_part1 (F := F) x1 x2 x3 x4 x5 x6 (val_main_v1 (F := F) x0) (val_main_v18 (F := F) x0 x1) (val_main_v19 (F := F) x0) (val_main_v22 (F := F) x1) = apart x0 x1 x2 x3 x4 x5 x6 :=
  (show _ = Pre_distinct_neighbors.fn_part2 (F := F) x1 x2 x3 x4 x5 x6 (val_main_v1 (F := F) x0) (val_main_v42 (F := F) x0 x1) (val_main_v43 (F := F) x0) (val_main_v46 (F := F) x1) from rfl).trans (part2 x0 x1 x2 x3 x4 x5 x6)

/-- The whole precondition. -/
theorem whole (x7 : FVec F S64x64 .f32) (x8 : FVec F S64x64 .f32) (x9 : FVec F S64 .f32) (x10 : FVec F S64x3 .f32) (x11 : FVec F S64x2 .f32) (x12 : FVec F S64x9 .f32) (x13 : FVec F S64x9 .f32) (x14 : FVec F S16x64 .f32) (x15 : FVec F S16 .f32) (x16 : FVec F S64x16 .f32) (x17 : FVec F S64 .f32) (x18 : FVec F S128x64 .f32) (x19 : FVec F S128 .f32) (x20 : FVec F S16x128 .f32) (x21 : FVec F S16 .f32) :
    Pre_distinct_neighbors.fn (F := F) x0 x1 x2 x3 x4 x5 x6 x7 x8 x9 x10 x11 x12 x13 x14 x15 x16 x17 x18 x19 x20 x21 = apart x0 x1 x2 x3 x4 x5 x6 :=
  (show _ = Pre_distinct_neighbors.fn_part1 (F := F) x1 x2 x3 x4 x5 x6 (val_main_v1 (F := F) x0) (val_main_v18 (F := F) x0 x1) (val_main_v19 (F := F) x0) (val_main_v22 (F := F) x1) from rfl).trans (part1 x0 x1 x2 x3 x4 x5 x6)

end Cert.Proof.R

end
-- ==== Proof.RScores.lean ====
/- The scores of the reference as the mathematics of one image, and what the precondition says of its distances. -/
module

public import proofs.«01_k».proof.Proof.RGraph
public import proofs.«01_k».proof.Proof.RPre
public import proofs.«01_k».proof.Proof.Whole

@[expose] public section

set_option maxRecDepth 16384

noncomputable section

namespace Cert.Proof.R

open Idealize.ShloMosaic Cert.ReferenceIdeal Cert.ReferenceIdeal.Gen Cert.ReferenceIdeal.Read

variable (x0 : FVec Ideal S256x200x11x11 .f32) (x1 : FVec Ideal S32x200x3x3 .f32) (x2 : FVec Ideal S32 .f32)
  (x3 : FVec Ideal S64x32x3x3 .f32) (x4 : FVec Ideal S64 .f32) (x5 : FVec Ideal S64x64x3x3 .f32) (x6 : FVec Ideal S64 .f32)
  (x7 x8 : FVec Ideal S64x64 .f32) (x9 : FVec Ideal S64 .f32) (x10 : FVec Ideal S64x3 .f32) (x11 : FVec Ideal S64x2 .f32)
  (x12 x13 : FVec Ideal S64x9 .f32) (x14 : FVec Ideal S16x64 .f32) (x15 : FVec Ideal S16 .f32) (x16 : FVec Ideal S64x16 .f32)
  (x17 : FVec Ideal S64 .f32) (x18 : FVec Ideal S128x64 .f32) (x19 : FVec Ideal S128 .f32) (x20 : FVec Ideal S16x128 .f32)
  (x21 : FVec Ideal S16 .f32)

/-- One of the ten greatest negated distances. -/
theorem leastTen_at (b : Fin 256) (i : Fin 121) (s : Fin 10) :
    leastTen x0 x1 x2 x3 x4 x5 x6 (ix3 b i s)
      = val_main_v199 (F := Ideal) x0 x1 x2 x3 x4 x5 x6
          (ix3 b i (Spec.order (val_main_v199 (F := Ideal) x0 x1 x2 x3 x4 x5 x6) b i ⟨s.val, by omega⟩)) :=
  Spec.top_values 10 (by decide) _ _ b i s

/-- Where the precondition holds, each of the ten is below the one before it. -/
theorem falls (h : apart x0 x1 x2 x3 x4 x5 x6 = fun _ => 1#1) (b : Fin 256) (i : Fin 121) (s : Fin 9) :
    val_main_v199 (F := Ideal) x0 x1 x2 x3 x4 x5 x6
        (ix3 b i (Spec.order (val_main_v199 (F := Ideal) x0 x1 x2 x3 x4 x5 x6) b i ⟨s.val + 1, by omega⟩))
      < val_main_v199 (F := Ideal) x0 x1 x2 x3 x4 x5 x6
          (ix3 b i (Spec.order (val_main_v199 (F := Ideal) x0 x1 x2 x3 x4 x5 x6) b i ⟨s.val, by omega⟩)) := by
  have hn : extractStridedSlice ⟨3, ![256, 121, 9]⟩ ![0, 0, 1] (leastTen x0 x1 x2 x3 x4 x5 x6)
      Pre_distinct_neighbors.Facts.slices_S256x121x10_S256x121x9_0_0_1 (ix3 b i s) = leastTen x0 x1 x2 x3 x4 x5 x6 (ix3 b i s.succ) :=
    extractStridedSlice_apply _ _ _ _ _ fun a => by
      match a with
      | ⟨0, _⟩ => exact (Nat.zero_add _).symm
      | ⟨1, _⟩ => exact (Nat.zero_add _).symm
      | ⟨2, _⟩ => exact Nat.add_comm _ _
  have hp : extractStridedSlice ⟨3, ![256, 121, 9]⟩ ![0, 0, 0] (leastTen x0 x1 x2 x3 x4 x5 x6)
      Pre_distinct_neighbors.Facts.slices_S256x121x10_S256x121x9_0_0_0 (ix3 b i s) = leastTen x0 x1 x2 x3 x4 x5 x6 (ix3 b i s.castSucc) :=
    extractStridedSlice_apply _ _ _ _ _ fun a => by
      match a with
      | ⟨0, _⟩ => exact (Nat.zero_add _).symm
      | ⟨1, _⟩ => exact (Nat.zero_add _).symm
      | ⟨2, _⟩ => exact (Nat.zero_add _).symm
  have hc := congrFun h (ix3 b i s)
  change Ideal.cmp .olt (extractStridedSlice _ _ _ _ (ix3 b i s)) (extractStridedSlice _ _ _ _ (ix3 b i s)) = 1#1 at hc
  rw [hn, hp, leastTen_at, leastTen_at] at hc
  by_contra hlt
  exact absurd (hc.symm.trans (congrArg BitVec.ofBool (decide_eq_false hlt))) (by decide)

/-- Where the precondition holds, the listed tokens rank the distances of their token. -/
theorem ranked (h : apart x0 x1 x2 x3 x4 x5 x6 = fun _ => 1#1) (b : Fin 256) (i : Fin 121) :
    Spec.Ranked (Spec.dist (Spec.imageTokens x0 x1 x2 x3 x4 x5 x6 b) i) (nearest x0 x1 x2 x3 x4 x5 x6 b i) :=
  Spec.ranked (val_main_v199 (F := Ideal) x0 x1 x2 x3 x4 x5 x6) b i _
    (fun j => congrArg (fun d : EReal => -d) (dist x0 x1 x2 x3 x4 x5 x6 b i j)) (falls x0 x1 x2 x3 x4 x5 x6 h b i)

/-- The scores of an image, its nearest tokens given by the ranking. -/
theorem result (h : apart x0 x1 x2 x3 x4 x5 x6 = fun _ => 1#1) (b : Fin 256) (o : Fin 16) :
    val_main_v355 (F := Ideal) x0 x1 x2 x3 x4 x5 x6 x7 x8 x9 x10 x11 x12 x13 x14 x15 x16 x17 x18 x19 x20 x21 (ix2 b o)
      = Spec.imageScores x0 x1 x2 x3 x4 x5 x6 x7 x8 x9 x10 x11 x12 x13 x14 x15 x16 x17 x18 x19 x20 x21 b (nearest x0 x1 x2 x3 x4 x5 x6 b) o := by
  have hact : ∀ p k, val_main_v291 (F := Ideal) x0 x1 x2 x3 x4 x5 x6 x7 x8 x9 x10 x11 (ix3 b p k)
      = Spec.act (fun n i => x10 (ix2 n i)) (fun n i => x11 (ix2 n i)) k
          (Spec.pre (Spec.imageTokens x0 x1 x2 x3 x4 x5 x6 b) (fun i j => Spec.near (nearest x0 x1 x2 x3 x4 x5 x6 b i) (Spec.Ranked.at128 j))
            (fun k n => x7 (ix2 k n)) (fun k n => x8 (ix2 k n)) (fun n => x9 (ix1 n)) p k) := fun p k =>
    (act x0 x1 x2 x3 x4 x5 x6 x7 x8 x9 x10 x11 b p k).trans
      (congrArg _ (graph x0 x1 x2 x3 x4 x5 x6 x7 x8 x9 b (ranked x0 x1 x2 x3 x4 x5 x6 h b) p k))
  have hpool : ∀ n, val_main_v342 (F := Ideal) x0 x1 x2 x3 x4 x5 x6 x7 x8 x9 x10 x11 x12 x13 x14 x15 x16 x17 (ix2 b n)
      = Spec.imagePooled x0 x1 x2 x3 x4 x5 x6 x7 x8 x9 x10 x11 x12 x13 x14 x15 x16 x17 b (nearest x0 x1 x2 x3 x4 x5 x6 b) n := fun n => by
    rw [pool]
    unfold Spec.imagePooled Spec.pooled
    exact congrArg (fun g : Fin 121 → Fin 64 → EReal => Spec.pool (fun p => Spec.attend (fun m k => x14 (ix2 m k)) (fun m => x15 (ix1 m)) (fun n m => x16 (ix2 n m))
      (fun n => x17 (ix1 n)) (fun n j => x12 (ix2 n j)) (fun n j => x13 (ix2 n j)) (g p)) n) (funext fun p => funext fun k => hact p k)
  rw [scores]
  exact congrArg (fun g : Fin 64 → EReal => Spec.head (fun m k => x18 (ix2 m k)) (fun m => x19 (ix1 m)) (fun o m => x20 (ix2 o m)) (fun o => x21 (ix1 o)) g o)
    (funext hpool)

end Cert.Proof.R

end
-- ==== Proof.RRun.lean ====
/- What the reference leaves: its last stage, and its arguments as launched. -/
module

public import proofs.«01_k».proof.Proof.Gen.ReferenceIdeal.Run
public import proofs.«01_k».proof.Proof.Gen.ReferenceIdeal.Read

@[expose] public section

set_option maxRecDepth 16384

noncomputable section

namespace Cert.Proof.R

open Idealize.ShloMosaic Idealize.SL.Sem Cert.ReferenceIdeal Cert.ReferenceIdeal.Gen Cert.ReferenceIdeal.Read

/-- Every run of the reference ends with its last stage in the result and its arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v355) = val_main_v355 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c).1.trans (val_main_v355_eq (F := Ideal) fun b => m (c, b)), (h c).2⟩) (Value.run (F := Ideal) m ρ)

end Cert.Proof.R

end
-- ==== Proof.Algebraic.lean ====
/- The equation of the two programs: where the ten least distances of each token rise strictly, both end with the same scores. -/
module

public import proofs.«01_k».proof.Proof.KRegions
public import proofs.«01_k».proof.Proof.KRun
public import proofs.«01_k».proof.Proof.RScores
public import proofs.«01_k».proof.Defs
public import proofs.«01_k».proof.Proof.RRun

@[expose] public section

set_option maxRecDepth 16384

noncomputable section

namespace Cert.Proof

open Idealize.ShloMosaic Idealize.SL.Sem Cert.KernelIdeal

/-- The precondition of device `c`: the ten least distances of each of its tokens rise strictly. -/
abbrev Apart (m : (ℓ : Loc nD τ sig) → Buf (Elt Ideal) ℓ) (c : Dev nD) : Prop :=
  R.apart (F := Ideal) (K.arg m c main_arg0) (K.arg m c main_arg1) (K.arg m c main_arg2) (K.arg m c main_arg3) (K.arg m c main_arg4) (K.arg m c main_arg5) (K.arg m c main_arg6) = fun _ => 1#1

/-- The nearest tokens of every token, from the arguments the kernel is launched with. -/
abbrev launchNearest (m : (ℓ : Loc nD τ sig) → Buf (Elt Ideal) ℓ) (c : Dev nD) (b : Fin 256) : Fin 121 → Fin 9 → Fin 121 :=
  R.nearest (K.arg m c main_arg0) (K.arg m c main_arg1) (K.arg m c main_arg2) (K.arg m c main_arg3) (K.arg m c main_arg4) (K.arg m c main_arg5) (K.arg m c main_arg6) b

/-- The stated precondition says this of every device. -/
theorem apart_of_pre (m : (ℓ : Loc nD τ sig) → Buf (Elt Ideal) ℓ) (h : Cert.Pre_KernelIdeal_distinct_neighbors (hPre_distinct_neighbors := preFacts) m)
    (c : Dev nD) : Apart m c :=
  (R.whole (F := Ideal) (K.arg m c main_arg0) (K.arg m c main_arg1) (K.arg m c main_arg2) (K.arg m c main_arg3) (K.arg m c main_arg4) (K.arg m c main_arg5) (K.arg m c main_arg6) (K.arg m c main_arg7) (K.arg m c main_arg8) (K.arg m c main_arg9) (K.arg m c main_arg10) (K.arg m c main_arg11) (K.arg m c main_arg12) (K.arg m c main_arg13) (K.arg m c main_arg14) (K.arg m c main_arg15) (K.arg m c main_arg16) (K.arg m c main_arg17) (K.arg m c main_arg18) (K.arg m c main_arg19) (K.arg m c main_arg20) (K.arg m c main_arg21)).symm.trans (h c)

/-- The scores of one image, from the kernel's arguments. -/
theorem score_of_launch (m : (ℓ : Loc nD τ sig) → Buf (Elt Ideal) ℓ) (c : Dev nD) (b : Fin 256) (o : Fin 16) :
    Spec.imageScores (K.arg m c main_arg0) (K.arg m c main_arg1) (K.arg m c main_arg2) (K.arg m c main_arg3) (K.arg m c main_arg4) (K.arg m c main_arg5) (K.arg m c main_arg6) (K.arg m c main_arg7) (K.arg m c main_arg8) (K.arg m c main_arg9) (K.arg m c main_arg10) (K.arg m c main_arg11) (K.arg m c main_arg12) (K.arg m c main_arg13) (K.arg m c main_arg14) (K.arg m c main_arg15) (K.arg m c main_arg16) (K.arg m c main_arg17) (K.arg m c main_arg18) (K.arg m c main_arg19) (K.arg m c main_arg20) (K.arg m c main_arg21) b (launchNearest m c b) o = K.scoresArray m c (launchNearest m c) (ix2 b o) := rfl

/-- One score of the reference, from the kernel's arguments. -/
theorem result_of_launch (m : (ℓ : Loc nD τ sig) → Buf (Elt Ideal) ℓ) (c : Dev nD) (h : Apart m c) (b : Fin 256) (o : Fin 16) :
    ReferenceIdeal.Read.val_main_v355 (F := Ideal) (K.arg m c main_arg0) (K.arg m c main_arg1) (K.arg m c main_arg2) (K.arg m c main_arg3) (K.arg m c main_arg4) (K.arg m c main_arg5) (K.arg m c main_arg6) (K.arg m c main_arg7) (K.arg m c main_arg8) (K.arg m c main_arg9) (K.arg m c main_arg10) (K.arg m c main_arg11) (K.arg m c main_arg12) (K.arg m c main_arg13) (K.arg m c main_arg14) (K.arg m c main_arg15) (K.arg m c main_arg16) (K.arg m c main_arg17) (K.arg m c main_arg18) (K.arg m c main_arg19) (K.arg m c main_arg20) (K.arg m c main_arg21) (ix2 b o) = K.scoresArray m c (launchNearest m c) (ix2 b o) := by
  refine (R.result (K.arg m c main_arg0) (K.arg m c main_arg1) (K.arg m c main_arg2) (K.arg m c main_arg3) (K.arg m c main_arg4) (K.arg m c main_arg5) (K.arg m c main_arg6) (K.arg m c main_arg7) (K.arg m c main_arg8) (K.arg m c main_arg9) (K.arg m c main_arg10) (K.arg m c main_arg11) (K.arg m c main_arg12) (K.arg m c main_arg13) (K.arg m c main_arg14) (K.arg m c main_arg15) (K.arg m c main_arg16) (K.arg m c main_arg17) (K.arg m c main_arg18) (K.arg m c main_arg19) (K.arg m c main_arg20) (K.arg m c main_arg21) h b o).trans ?_
  exact score_of_launch m c b o

/-- The reference's scores, from the kernel's arguments. -/
theorem scores_of_launch (m : (ℓ : Loc nD τ sig) → Buf (Elt Ideal) ℓ) (c : Dev nD) (h : Apart m c) :
    ReferenceIdeal.Read.val_main_v355 (F := Ideal) (K.arg m c main_arg0) (K.arg m c main_arg1) (K.arg m c main_arg2) (K.arg m c main_arg3) (K.arg m c main_arg4) (K.arg m c main_arg5) (K.arg m c main_arg6) (K.arg m c main_arg7) (K.arg m c main_arg8) (K.arg m c main_arg9) (K.arg m c main_arg10) (K.arg m c main_arg11) (K.arg m c main_arg12) (K.arg m c main_arg13) (K.arg m c main_arg14) (K.arg m c main_arg15) (K.arg m c main_arg16) (K.arg m c main_arg17) (K.arg m c main_arg18) (K.arg m c main_arg19) (K.arg m c main_arg20) (K.arg m c main_arg21) = K.scoresArray m c (launchNearest m c) := by
  funext i
  rw [eq_ix2 i]
  exact result_of_launch m c h (i 0) (i 1)

/-- The listed tokens rank the distances of the launched images. -/
theorem ranked_of_launch (m : (ℓ : Loc nD τ sig) → Buf (Elt Ideal) ℓ) (c : Dev nD) (h : Apart m c) (b : Fin 256) (i : Fin 121) :
    Spec.Ranked (Spec.dist (K.launchTokens m c b) i) (launchNearest m c b i) := by
  have hr := R.ranked (K.arg m c main_arg0) (K.arg m c main_arg1) (K.arg m c main_arg2) (K.arg m c main_arg3) (K.arg m c main_arg4) (K.arg m c main_arg5) (K.arg m c main_arg6) h b i
  exact hr

/-- The reference's scores, from its own arguments, where they are the kernel's. -/
theorem scores_of_reference (m : (ℓ : Loc nD τ sig) → Buf (Elt Ideal) ℓ)
    (m' : (ℓ : Loc ReferenceIdeal.nD ReferenceIdeal.τ ReferenceIdeal.sig) → Buf (Elt Ideal) ℓ) (c : Dev nD) (h : Apart m c)
    (hag : m' ((c.tc : Thread ReferenceIdeal.nD ReferenceIdeal.τ).loc ReferenceIdeal.main_arg0) = m ((c.tc : Thread nD τ).loc main_arg0)
      ∧ m' ((c.tc : Thread ReferenceIdeal.nD ReferenceIdeal.τ).loc ReferenceIdeal.main_arg1) = m ((c.tc : Thread nD τ).loc main_arg1)
      ∧ m' ((c.tc : Thread ReferenceIdeal.nD ReferenceIdeal.τ).loc ReferenceIdeal.main_arg2) = m ((c.tc : Thread nD τ).loc main_arg2)
      ∧ m' ((c.tc : Thread ReferenceIdeal.nD ReferenceIdeal.τ).loc ReferenceIdeal.main_arg3) = m ((c.tc : Thread nD τ).loc main_arg3)
      ∧ m' ((c.tc : Thread ReferenceIdeal.nD ReferenceIdeal.τ).loc ReferenceIdeal.main_arg4) = m ((c.tc : Thread nD τ).loc main_arg4)
      ∧ m' ((c.tc : Thread ReferenceIdeal.nD ReferenceIdeal.τ).loc ReferenceIdeal.main_arg5) = m ((c.tc : Thread nD τ).loc main_arg5)
      ∧ m' ((c.tc : Thread ReferenceIdeal.nD ReferenceIdeal.τ).loc ReferenceIdeal.main_arg6) = m ((c.tc : Thread nD τ).loc main_arg6)
      ∧ m' ((c.tc : Thread ReferenceIdeal.nD ReferenceIdeal.τ).loc ReferenceIdeal.main_arg7) = m ((c.tc : Thread nD τ).loc main_arg7)
      ∧ m' ((c.tc : Thread ReferenceIdeal.nD ReferenceIdeal.τ).loc ReferenceIdeal.main_arg8) = m ((c.tc : Thread nD τ).loc main_arg8)
      ∧ m' ((c.tc : Thread ReferenceIdeal.nD ReferenceIdeal.τ).loc ReferenceIdeal.main_arg9) = m ((c.tc : Thread nD τ).loc main_arg9)
      ∧ m' ((c.tc : Thread ReferenceIdeal.nD ReferenceIdeal.τ).loc ReferenceIdeal.main_arg10) = m ((c.tc : Thread nD τ).loc main_arg10)
      ∧ m' ((c.tc : Thread ReferenceIdeal.nD ReferenceIdeal.τ).loc ReferenceIdeal.main_arg11) = m ((c.tc : Thread nD τ).loc main_arg11)
      ∧ m' ((c.tc : Thread ReferenceIdeal.nD ReferenceIdeal.τ).loc ReferenceIdeal.main_arg12) = m ((c.tc : Thread nD τ).loc main_arg12)
      ∧ m' ((c.tc : Thread ReferenceIdeal.nD ReferenceIdeal.τ).loc ReferenceIdeal.main_arg13) = m ((c.tc : Thread nD τ).loc main_arg13)
      ∧ m' ((c.tc : Thread ReferenceIdeal.nD ReferenceIdeal.τ).loc ReferenceIdeal.main_arg14) = m ((c.tc : Thread nD τ).loc main_arg14)
      ∧ m' ((c.tc : Thread ReferenceIdeal.nD ReferenceIdeal.τ).loc ReferenceIdeal.main_arg15) = m ((c.tc : Thread nD τ).loc main_arg15)
      ∧ m' ((c.tc : Thread ReferenceIdeal.nD ReferenceIdeal.τ).loc ReferenceIdeal.main_arg16) = m ((c.tc : Thread nD τ).loc main_arg16)
      ∧ m' ((c.tc : Thread ReferenceIdeal.nD ReferenceIdeal.τ).loc ReferenceIdeal.main_arg17) = m ((c.tc : Thread nD τ).loc main_arg17)
      ∧ m' ((c.tc : Thread ReferenceIdeal.nD ReferenceIdeal.τ).loc ReferenceIdeal.main_arg18) = m ((c.tc : Thread nD τ).loc main_arg18)
      ∧ m' ((c.tc : Thread ReferenceIdeal.nD ReferenceIdeal.τ).loc ReferenceIdeal.main_arg19) = m ((c.tc : Thread nD τ).loc main_arg19)
      ∧ m' ((c.tc : Thread ReferenceIdeal.nD ReferenceIdeal.τ).loc ReferenceIdeal.main_arg20) = m ((c.tc : Thread nD τ).loc main_arg20)
      ∧ m' ((c.tc : Thread ReferenceIdeal.nD ReferenceIdeal.τ).loc ReferenceIdeal.main_arg21) = m ((c.tc : Thread nD τ).loc main_arg21)) :
    ReferenceIdeal.Read.val_main_v355 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8)) (m' ((c.tc : Thread ReferenceIdeal.nD ReferenceIdeal.τ).loc ReferenceIdeal.main_arg9)) (m' ((c.tc : Thread ReferenceIdeal.nD ReferenceIdeal.τ).loc ReferenceIdeal.main_arg10)) (m' ((c.tc : Thread ReferenceIdeal.nD ReferenceIdeal.τ).loc ReferenceIdeal.main_arg11)) (m' ((c.tc : Thread ReferenceIdeal.nD ReferenceIdeal.τ).loc ReferenceIdeal.main_arg12)) (m' ((c.tc : Thread ReferenceIdeal.nD ReferenceIdeal.τ).loc ReferenceIdeal.main_arg13)) (m' ((c.tc : Thread ReferenceIdeal.nD ReferenceIdeal.τ).loc ReferenceIdeal.main_arg14)) (m' ((c.tc : Thread ReferenceIdeal.nD ReferenceIdeal.τ).loc ReferenceIdeal.main_arg15)) (m' ((c.tc : Thread ReferenceIdeal.nD ReferenceIdeal.τ).loc ReferenceIdeal.main_arg16)) (m' ((c.tc : Thread ReferenceIdeal.nD ReferenceIdeal.τ).loc ReferenceIdeal.main_arg17)) (m' ((c.tc : Thread ReferenceIdeal.nD ReferenceIdeal.τ).loc ReferenceIdeal.main_arg18)) (m' ((c.tc : Thread ReferenceIdeal.nD ReferenceIdeal.τ).loc ReferenceIdeal.main_arg19)) (m' ((c.tc : Thread ReferenceIdeal.nD ReferenceIdeal.τ).loc ReferenceIdeal.main_arg20)) (m' ((c.tc : Thread ReferenceIdeal.nD ReferenceIdeal.τ).loc ReferenceIdeal.main_arg21)) = K.scoresArray m c (launchNearest m c) := by
  obtain ⟨h0, h1, h2, h3, h4, h5, h6, h7, h8, h9, h10, h11, h12, h13, h14, h15, h16, h17, h18, h19, h20, h21⟩ := hag
  rw [h0, h1, h2, h3, h4, h5, h6, h7, h8, h9, h10, h11, h12, h13, h14, h15, h16, h17, h18, h19, h20, h21]
  exact scores_of_launch m c h

/-- Both programs end with the same scores. -/
theorem algebraic : Cert.algebraic_KernelIdeal_ReferenceIdeal_pre_distinct_neighbors (hKernelIdeal := Cert.KernelIdeal.Gen.facts)
    (hReferenceIdeal := Cert.ReferenceIdeal.Gen.facts) (hPre_distinct_neighbors := preFacts) := by
  intro m g m' g' hpre hag
  have ha := apart_of_pre m hpre
  refine ⟨fun c => K.scoresArray m c (launchNearest m c), ?_, ?_⟩
  · exact (θ_run Cert.KernelIdeal.defs _ _).mono
      (fun r h c => ⟨(h c).1.trans (K.region1 m g c (launchNearest m c) (ranked_of_launch m c (ha c))), (h c).2⟩)
      (K.run (F := Ideal) m g)
  · exact (θ_run Cert.ReferenceIdeal.defs _ _).mono
      (fun r h c => ⟨(h c).1.trans (scores_of_reference m m' c (ha c) (hag c)), (h c).2⟩) (R.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.PreFacts
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as printed ends with its arguments as they were and every counter at zero. -/
theorem frame_kernel : Cert.quiescent_Kernel (hKernel := Cert.Kernel.Gen.facts) :=
  fun m ρ _ => Cert.Kernel.Gen.frame m ρ

/-- So does the idealized kernel. -/
theorem frame_kernelIdeal : Cert.quiescent_KernelIdeal (hKernelIdeal := Cert.KernelIdeal.Gen.facts) :=
  fun m ρ _ => Cert.KernelIdeal.Gen.frame m ρ

/-- The reference is host code alone: its arguments end as they were, and it has no counter to leave unsettled. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The idealized kernel's frame holds the more where the precondition does. -/
theorem frame_kernelIdeal_pre : Cert.quiescent_KernelIdeal_pre_distinct_neighbors (hKernelIdeal := Cert.KernelIdeal.Gen.facts)
    (hPre_distinct_neighbors := preFacts) :=
  fun m ρ _ => Cert.KernelIdeal.Gen.frame m ρ

/-- So does the reference's. -/
theorem frame_reference_pre : Cert.quiescent_ReferenceIdeal_pre_distinct_neighbors (hReferenceIdeal := Cert.ReferenceIdeal.Gen.facts)
    (hPre_distinct_neighbors := preFacts) :=
  fun m ρ _ => frame_reference m ρ trivial

/-- The two named constants are the rationals their names stand for. -/
theorem preserves : Cert.preserves_Kernel_KernelIdeal :=
  ⟨IdealRules.named_const.statement Cert.KernelIdeal.κ "inv_degree" .f32 0x3DFFFFFE#32 _ rfl,
    IdealRules.named_const.statement Cert.KernelIdeal.κ "nine_eps" .f32 0x307763DF#32 _ rfl⟩

/-- All claims. -/
theorem claim : Cert.Claim :=
  ⟨Cert.Kernel.Gen.facts, Cert.KernelIdeal.Gen.facts, Cert.ReferenceIdeal.Gen.facts, preFacts,
    frame_kernel, frame_kernelIdeal, frame_kernelIdeal_pre, frame_reference, frame_reference_pre, preserves, algebraic⟩

end Cert.Proof

end
